-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S4x2048x256 : Shape := ⟨3, ![4, 2048, 256]⟩
abbrev S4x2048x3 : Shape := ⟨3, ![4, 2048, 3]⟩
abbrev S4x2048x2048 : Shape := ⟨3, ![4, 2048, 2048]⟩
abbrev S256x256 : Shape := ⟨2, ![256, 256]⟩
abbrev S256 : Shape := ⟨1, ![256]⟩
abbrev S256x2 : Shape := ⟨2, ![256, 2]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x256 : S_.BroadcastsInDim S4x2048x256 (![] : Fin 0 → Fin S4x2048x256.rank)
  reducesTo_S4x2048x256_S_d0_1_2 : S4x2048x256.ReducesTo [0, 1, 2] S_
  bcast_S_S4x2048x3 : S_.BroadcastsInDim S4x2048x3 (![] : Fin 0 → Fin S4x2048x3.rank)
  reducesTo_S4x2048x3_S_d0_1_2 : S4x2048x3.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_

variable [Facts]

def fn_part3 {F : FTy → Type} [FloatOps F] (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  main_v52

def fn_part2 {F : FTy → Type} [FloatOps F] (main_arg17 : FVec F S256 .f32) (main_arg18 : FVec F S256x256 .f32) (main_arg19 : FVec F S256 .f32) (main_v32 : IVec S_ 1) (main_v33 : FVec F S256x2 .f32) : IVec S_ 1 :=
  let main_cst_12 : FVec F S_ .f32 := constant S_ .f32 0x7F800000#32
  let main_v34 : FVec F S256x2 .f32 := broadcastInDim S256x2 ![] bcast_S_S256x2 main_cst_12
  let main_v35 : IVec S256x2 1 := cmpf .olt main_v33 main_v34
  let main_c_13 : IVec S_ 1 := constantI S_ 1 1#1
  let main_v36 : IVec S_ 1 := (fun x v => Host.reduce IntOp.andi x v reducesTo_S256x2_S_d0_1 h_S_) main_v35 main_c_13
  let main_v37 : IVec S_ 1 := andi main_v32 main_v36
  let main_v38 : FVec F S256 .f32 := Host.absf main_arg17
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  let main_v43 : FVec F S256x256 .f32 := Host.absf main_arg18
  let main_cst_16 : FVec F S_ .f32 := constant S_ .f32 0x7F800000#32
  let main_v44 : FVec F S256x256 .f32 := broadcastInDim S256x256 ![] bcast_S_S256x256 main_cst_16
  let main_v45 : IVec S256x256 1 := cmpf .olt main_v43 main_v44
  let main_c_17 : IVec S_ 1 := constantI S_ 1 1#1
  let main_v46 : IVec S_ 1 := (fun x v => Host.reduce IntOp.andi x v reducesTo_S256x256_S_d0_1 h_S_) main_v45 main_c_17
  let main_v47 : IVec S_ 1 := andi main_v42 main_v46
  let main_v48 : FVec F S256 .f32 := Host.absf main_arg19
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_v47 main_v50

def fn_part1 {F : FTy → Type} [FloatOps F] (main_arg9 : FVec F S256 .f32) (main_arg10 : FVec F S256x256 .f32) (main_arg11 : FVec F S256 .f32) (main_arg16 : FVec F S256x2 .f32) (main_arg17 : FVec F S256 .f32) (main_arg18 : FVec F S256x256 .f32) (main_arg19 : FVec F S256 .f32) (main_v12 : IVec S_ 1) (main_v15 : IVec S256x256 1) (main_c_5 : IVec S_ 1) : IVec S_ 1 :=
  let main_v16 : IVec S_ 1 := (fun x v => Host.reduce IntOp.andi x v reducesTo_S256x256_S_d0_1 h_S_) main_v15 main_c_5
  let main_v17 : IVec S_ 1 := andi main_v12 main_v16
  let main_v18 : FVec F S256 .f32 := Host.absf main_arg9
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256x256 .f32 := Host.absf main_arg10
  let main_cst_8 : FVec F S_ .f32 := constant S_ .f32 0x7F800000#32
  let main_v24 : FVec F S256x256 .f32 := broadcastInDim S256x256 ![] bcast_S_S256x256 main_cst_8
  let main_v25 : IVec S256x256 1 := cmpf .olt main_v23 main_v24
  let main_c_9 : IVec S_ 1 := constantI S_ 1 1#1
  let main_v26 : IVec S_ 1 := (fun x v => Host.reduce IntOp.andi x v reducesTo_S256x256_S_d0_1 h_S_) main_v25 main_c_9
  let main_v27 : IVec S_ 1 := andi main_v22 main_v26
  let main_v28 : FVec F S256 .f32 := Host.absf main_arg11
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256x2 .f32 := Host.absf main_arg16
  fn_part2 (F := F) main_arg17 main_arg18 main_arg19 main_v32 main_v33

def fn {F : FTy → Type} [FloatOps F] (main_arg0 : FVec F S4x2048x256 .f32) (main_arg1 : FVec F S4x2048x3 .f32) (main_arg2 : FVec F S4x2048x3 .f32) (main_arg3 : FVec F S4x2048x2048 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x2 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_arg24 : FVec F S256 .f32) (main_arg25 : FVec F S256 .f32) : IVec S_ 1 :=
  let main_cst : FVec F S_ .f32 := constant S_ .f32 0x00000000#32
  let main_v0 : FVec F S4x2048x2048 .f32 := broadcastInDim S4x2048x2048 ![] bcast_S_S4x2048x2048 main_cst
  let main_v1 : IVec S4x2048x2048 1 := cmpf .une main_arg3 main_v0
  let main_c : IVec S_ 1 := constantI S_ 1 1#1
  let main_v2 : IVec S_ 1 := (fun x v => Host.reduce IntOp.andi x v reducesTo_S4x2048x2048_S_d0_1_2 h_S_) main_v1 main_c
  let main_v3 : FVec F S4x2048x256 .f32 := Host.absf main_arg0
  let main_cst_0 : FVec F S_ .f32 := constant S_ .f32 0x7F800000#32
  let main_v4 : FVec F S4x2048x256 .f32 := broadcastInDim S4x2048x256 ![] bcast_S_S4x2048x256 main_cst_0
  let main_v5 : IVec S4x2048x256 1 := cmpf .olt main_v3 main_v4
  let main_c_1 : IVec S_ 1 := constantI S_ 1 1#1
  let main_v6 : IVec S_ 1 := (fun x v => Host.reduce IntOp.andi x v reducesTo_S4x2048x256_S_d0_1_2 h_S_) main_v5 main_c_1
  let main_v7 : IVec S_ 1 := andi main_v2 main_v6
  let main_v8 : FVec F S4x2048x3 .f32 := Host.absf main_arg1
  let main_cst_2 : FVec F S_ .f32 := constant S_ .f32 0x7F800000#32
  let main_v9 : FVec F S4x2048x3 .f32 := broadcastInDim S4x2048x3 ![] bcast_S_S4x2048x3 main_cst_2
  let main_v10 : IVec S4x2048x3 1 := cmpf .olt main_v8 main_v9
  let main_c_3 : IVec S_ 1 := constantI S_ 1 1#1
  let main_v11 : IVec S_ 1 := (fun x v => Host.reduce IntOp.andi x v reducesTo_S4x2048x3_S_d0_1_2 h_S_) main_v10 main_c_3
  let main_v12 : IVec S_ 1 := andi main_v7 main_v11
  let main_v13 : FVec F S256x256 .f32 := Host.absf main_arg8
  let main_cst_4 : FVec F S_ .f32 := constant S_ .f32 0x7F800000#32
  let main_v14 : FVec F S256x256 .f32 := broadcastInDim S256x256 ![] bcast_S_S256x256 main_cst_4
  let main_v15 : IVec S256x256 1 := cmpf .olt main_v13 main_v14
  let main_c_5 : IVec S_ 1 := constantI S_ 1 1#1
  fn_part1 (F := F) main_arg9 main_arg10 main_arg11 main_arg16 main_arg17 main_arg18 main_arg19 main_v12 main_v15 main_c_5
-- ==== Kernel.lean ====
abbrev S4x2048x256 : Shape := ⟨3, ![4, 2048, 256]⟩
abbrev S4x2048x3 : Shape := ⟨3, ![4, 2048, 3]⟩
abbrev S4x2048x2048 : Shape := ⟨3, ![4, 2048, 2048]⟩
abbrev S256x256 : Shape := ⟨2, ![256, 256]⟩
abbrev S256 : Shape := ⟨1, ![256]⟩
abbrev S256x2 : Shape := ⟨2, ![256, 2]⟩
abbrev S8192x256 : Shape := ⟨2, ![8192, 256]⟩
abbrev S512x256 : Shape := ⟨2, ![512, 256]⟩
abbrev S1x256 : Shape := ⟨2, ![1, 256]⟩
abbrev S_ : Shape := ⟨0, ![]⟩
abbrev S4x2048x2 : Shape := ⟨3, ![4, 2048, 2]⟩
abbrev S4x2048x8 : Shape := ⟨3, ![4, 2048, 8]⟩
abbrev S4x3x2048 : Shape := ⟨3, ![4, 3, 2048]⟩
abbrev S4x2048x16 : Shape := ⟨3, ![4, 2048, 16]⟩
abbrev S1x256x8 : Shape := ⟨3, ![1, 256, 8]⟩
abbrev S1x3x2048 : Shape := ⟨3, ![1, 3, 2048]⟩
abbrev S1x256x16 : Shape := ⟨3, ![1, 256, 16]⟩
abbrev S256x8 : Shape := ⟨2, ![256, 8]⟩
abbrev S256x3 : Shape := ⟨2, ![256, 3]⟩
abbrev S3x2048 : Shape := ⟨2, ![3, 2048]⟩
abbrev S2048 : Shape := ⟨1, ![2048]⟩
abbrev S256x2048 : Shape := ⟨2, ![256, 2048]⟩
abbrev S256x1 : Shape := ⟨2, ![256, 1]⟩
abbrev S1x2048 : Shape := ⟨2, ![1, 2048]⟩
abbrev S256x16 : Shape := ⟨2, ![256, 16]⟩
abbrev S4 : Shape := ⟨1, ![4]⟩
abbrev S4x1x1 : Shape := ⟨3, ![4, 1, 1]⟩
abbrev S131072 : Shape := ⟨1, ![131072]⟩
abbrev S131072x1 : Shape := ⟨2, ![131072, 1]⟩
abbrev S131072x256 : Shape := ⟨2, ![131072, 256]⟩
abbrev S8192x8 : Shape := ⟨2, ![8192, 8]⟩
abbrev S131072x8 : Shape := ⟨2, ![131072, 8]⟩
abbrev S2x256 : Shape := ⟨2, ![2, 256]⟩
abbrev S32x256x16x256 : Shape := ⟨4, ![32, 256, 16, 256]⟩
abbrev S32x256x16x8 : Shape := ⟨4, ![32, 256, 16, 8]⟩
abbrev S1x256x16x256 : Shape := ⟨4, ![1, 256, 16, 256]⟩
abbrev S1x256x16x8 : Shape := ⟨4, ![1, 256, 16, 8]⟩
abbrev S256x16x256 : Shape := ⟨3, ![256, 16, 256]⟩
abbrev S256x16x8 : Shape := ⟨3, ![256, 16, 8]⟩
abbrev S256x16x1 : Shape := ⟨3, ![256, 16, 1]⟩
abbrev S1x1x256 : Shape := ⟨3, ![1, 1, 256]⟩
abbrev S256x1x256 : Shape := ⟨3, ![256, 1, 256]⟩

abbrev nBuf : Space → Nat
  | .hbm => 88
  | .vmem => 53
  | .smem => 0
  | _ => 0

abbrev bufTy : (tb : Table) → Fin (tcTables nBuf tb) → BufTy
  | .hbm, ⟨0, _⟩ => ⟨S4x2048x256, .f32⟩
  | .hbm, ⟨1, _⟩ => ⟨S4x2048x3, .f32⟩
  | .hbm, ⟨2, _⟩ => ⟨S4x2048x3, .f32⟩
  | .hbm, ⟨3, _⟩ => ⟨S4x2048x2048, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x2, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S8192x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S4x2048x2, .f32⟩
  | .hbm, ⟨39, _⟩ => ⟨S4x2048x8, .f32⟩
  | .hbm, ⟨40, _⟩ => ⟨S4x2048x3, .f32⟩
  | .hbm, ⟨41, _⟩ => ⟨S4x3x2048, .f32⟩
  | .hbm, ⟨42, _⟩ => ⟨S4x2048x16, .i32⟩
  | .hbm, ⟨43, _⟩ => ⟨S4, .i32⟩
  | .hbm, ⟨44, _⟩ => ⟨S_, .i32⟩
  | .hbm, ⟨45, _⟩ => ⟨S4, .i32⟩
  | .hbm, ⟨46, _⟩ => ⟨S4, .i32⟩
  | .hbm, ⟨47, _⟩ => ⟨S4x1x1, .i32⟩
  | .hbm, ⟨48, _⟩ => ⟨S4x2048x16, .i32⟩
  | .hbm, ⟨49, _⟩ => ⟨S4x2048x16, .i32⟩
  | .hbm, ⟨50, _⟩ => ⟨S131072, .i32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x256, .f32⟩
  | .hbm, ⟨60, _⟩ => ⟨S_, .i32⟩
  | .hbm, ⟨61, _⟩ => ⟨S131072, .i32⟩
  | .hbm, ⟨62, _⟩ => ⟨S131072, .i1⟩
  | .hbm, ⟨63, _⟩ => ⟨S_, .i32⟩
  | .hbm, ⟨64, _⟩ => ⟨S131072, .i32⟩
  | .hbm, ⟨65, _⟩ => ⟨S131072, .i32⟩
  | .hbm, ⟨66, _⟩ => ⟨S131072, .i32⟩
  | .hbm, ⟨67, _⟩ => ⟨S131072x1, .i32⟩
  | .hbm, ⟨68, _⟩ => ⟨S131072x256, .f32⟩
  | .hbm, ⟨69, _⟩ => ⟨S8192x8, .f32⟩
  | .hbm, ⟨70, _⟩ => ⟨S_, .i32⟩
  | .hbm, ⟨71, _⟩ => ⟨S131072, .i32⟩
  | .hbm, ⟨72, _⟩ => ⟨S131072, .i1⟩
  | .hbm, ⟨73, _⟩ => ⟨S_, .i32⟩
  | .hbm, ⟨74, _⟩ => ⟨S131072, .i32⟩
  | .hbm, ⟨75, _⟩ => ⟨S131072, .i32⟩
  | .hbm, ⟨76, _⟩ => ⟨S131072, .i32⟩
  | .hbm, ⟨77, _⟩ => ⟨S131072x1, .i32⟩
  | .hbm, ⟨78, _⟩ => ⟨S131072x8, .f32⟩
  | .hbm, ⟨79, _⟩ => ⟨S8192x8, .f32⟩
  | .hbm, ⟨80, _⟩ => ⟨S2x256, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S32x256x16x256, .f32⟩
  | .hbm, ⟨85, _⟩ => ⟨S32x256x16x256, .f32⟩
  | .hbm, ⟨86, _⟩ => ⟨S32x256x16x8, .f32⟩
  | .hbm, ⟨87, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1x256x8, .f32⟩
  | .local _ .vmem, ⟨24, _⟩ => ⟨S1x256x8, .f32⟩
  | .local _ .vmem, ⟨25, _⟩ => ⟨S1x3x2048, .f32⟩
  | .local _ .vmem, ⟨26, _⟩ => ⟨S1x3x2048, .f32⟩
  | .local _ .vmem, ⟨27, _⟩ => ⟨S1x256x16, .i32⟩
  | .local _ .vmem, ⟨28, _⟩ => ⟨S1x256x16, .i32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x8, .f32⟩
  | .local _ .vmem, ⟨34, _⟩ => ⟨S256x8, .f32⟩
  | .local _ .vmem, ⟨35, _⟩ => ⟨S1x256x16x256, .f32⟩
  | .local _ .vmem, ⟨36, _⟩ => ⟨S1x256x16x256, .f32⟩
  | .local _ .vmem, ⟨37, _⟩ => ⟨S1x256x16x256, .f32⟩
  | .local _ .vmem, ⟨38, _⟩ => ⟨S1x256x16x256, .f32⟩
  | .local _ .vmem, ⟨39, _⟩ => ⟨S1x256x16x8, .f32⟩
  | .local _ .vmem, ⟨40, _⟩ => ⟨S1x256x16x8, .f32⟩
  | .local _ .vmem, ⟨41, _⟩ => ⟨S2x256, .f32⟩
  | .local _ .vmem, ⟨42, _⟩ => ⟨S256, .f32⟩
  | .local _ .vmem, ⟨43, _⟩ => ⟨S256x256, .f32⟩
  | .local _ .vmem, ⟨44, _⟩ => ⟨S256, .f32⟩
  | .local _ .vmem, ⟨45, _⟩ => ⟨S256x256, .f32⟩
  | .local _ .vmem, ⟨46, _⟩ => ⟨S256, .f32⟩
  | .local _ .vmem, ⟨47, _⟩ => ⟨S256x256, .f32⟩
  | .local _ .vmem, ⟨48, _⟩ => ⟨S256, .f32⟩
  | .local _ .vmem, ⟨49, _⟩ => ⟨S256, .f32⟩
  | .local _ .vmem, ⟨50, _⟩ => ⟨S256, .f32⟩
  | .local _ .vmem, ⟨51, _⟩ => ⟨S256x256, .f32⟩
  | .local _ .vmem, ⟨52, _⟩ => ⟨S256x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7_0 : Ref sig .tc := ⟨.hbm, 33, rfl⟩
abbrev main_v7_1 : Ref sig .tc := ⟨.hbm, 34, rfl⟩
abbrev main_v7_2 : Ref sig .tc := ⟨.hbm, 35, rfl⟩
abbrev main_v7_3 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_0 : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_c_2 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_4 : Ref sig .tc := ⟨.hbm, 70, rfl⟩
abbrev main_v35 : Ref sig .tc := ⟨.hbm, 71, rfl⟩
abbrev main_v36 : Ref sig .tc := ⟨.hbm, 72, rfl⟩
abbrev main_c_5 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg12_0 : Ref sig .tc := ⟨.vmem, 47, rfl⟩
abbrev cc2_stg13_0 : Ref sig .tc := ⟨.vmem, 48, rfl⟩
abbrev cc2_stg14_0 : Ref sig .tc := ⟨.vmem, 49, rfl⟩
abbrev cc2_stg15_0 : Ref sig .tc := ⟨.vmem, 50, rfl⟩
abbrev cc2_stg16_0 : Ref sig .tc := ⟨.vmem, 51, rfl⟩
abbrev cc2_stg16_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50
abbrev cc2_sem16_0 : DmaSem sig := 51
abbrev cc2_sem16_1 : DmaSem sig := 52

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x16x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x16x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x16x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S256x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]
-- ==== ReferenceIdeal.lean ====
abbrev S4x2048x256 : Shape := ⟨3, ![4, 2048, 256]⟩
abbrev S4x2048x3 : Shape := ⟨3, ![4, 2048, 3]⟩
abbrev S4x2048x2048 : Shape := ⟨3, ![4, 2048, 2048]⟩
abbrev S256x256 : Shape := ⟨2, ![256, 256]⟩
abbrev S256 : Shape := ⟨1, ![256]⟩
abbrev S256x2 : Shape := ⟨2, ![256, 2]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x16 : Shape := ⟨3, ![4, 2048, 16]⟩
abbrev S1x1x256 : Shape := ⟨3, ![1, 1, 256]⟩
abbrev S4x2048x16x1 : Shape := ⟨4, ![4, 2048, 16, 1]⟩
abbrev S4x2048x16x256 : Shape := ⟨4, ![4, 2048, 16, 256]⟩
abbrev S4x2048x16x3 : Shape := ⟨4, ![4, 2048, 16, 3]⟩
abbrev S4x2048x1x3 : Shape := ⟨4, ![4, 2048, 1, 3]⟩
abbrev S4x2048x16x2 : Shape := ⟨4, ![4, 2048, 16, 2]⟩
abbrev S1x1x1x256 : Shape := ⟨4, ![1, 1, 1, 256]⟩
abbrev S4x2048x1x256 : Shape := ⟨4, ![4, 2048, 1, 256]⟩
abbrev S4x2048x16x16 : Shape := ⟨4, ![4, 2048, 16, 16]⟩
abbrev S8192x256 : Shape := ⟨2, ![8192, 256]⟩

abbrev nBuf : Space → Nat
  | .hbm => 284
  | .vmem => 0
  | .smem => 0
  | _ => 0

abbrev hbmTy0_0 (i : Nat) : BufTy := match i % 128 with
  | 0 => ⟨S4x2048x256, .f32⟩
  | 1 => ⟨S4x2048x3, .f32⟩
  | 2 => ⟨S4x2048x3, .f32⟩
  | 3 => ⟨S4x2048x2048, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x2, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S256, .f32⟩
  | 25 => ⟨S256, .f32⟩
  | 26 => ⟨S4x2048x3, .f32⟩
  | 27 => ⟨S_, .f32⟩
  | 28 => ⟨S4x2048, .f32⟩
  | 29 => ⟨S4x2048x1, .f32⟩
  | 30 => ⟨S4x1x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S_, .f32⟩
  | 36 => ⟨S4x2048x2048, .f32⟩
  | 37 => ⟨S4x2048x2048, .f32⟩
  | 38 => ⟨S4x2048x2048, .f32⟩
  | 39 => ⟨S_, .f32⟩
  | 40 => ⟨S4x2048x2048, .f32⟩
  | 41 => ⟨S4x2048x2048, .f32⟩
  | 42 => ⟨S4x2048x2048, .f32⟩
  | 43 => ⟨S_, .f32⟩
  | 44 => ⟨S4x2048x2048, .f32⟩
  | 45 => ⟨S4x2048x2048, .i1⟩
  | 46 => ⟨S_, .f32⟩
  | 47 => ⟨S_, .f32⟩
  | 48 => ⟨S4x2048x2048, .f32⟩
  | 49 => ⟨S4x2048x2048, .f32⟩
  | 50 => ⟨S4x2048x2048, .f32⟩
  | 51 => ⟨S4x2048x16, .f32⟩
  | 52 => ⟨S4x2048x16, .i32⟩
  | 53 => ⟨S4x2048x256, .f32⟩
  | 54 => ⟨S1x1x256, .f32⟩
  | 55 => ⟨S4x2048x256, .f32⟩
  | 56 => ⟨S4x2048x256, .f32⟩
  | 57 => ⟨S_, .f32⟩
  | 58 => ⟨S4x2048x256, .f32⟩
  | 59 => ⟨S4x2048x256, .f32⟩
  | 60 => ⟨S4x2048x256, .f32⟩
  | 61 => ⟨S1x1x256, .f32⟩
  | 62 => ⟨S4x2048x256, .f32⟩
  | 63 => ⟨S4x2048x256, .f32⟩
  | 64 => ⟨S4x2048x256, .f32⟩
  | 65 => ⟨S1x1x256, .f32⟩
  | 66 => ⟨S4x2048x256, .f32⟩
  | 67 => ⟨S4x2048x256, .f32⟩
  | 68 => ⟨S_, .f32⟩
  | 69 => ⟨S4x2048x256, .f32⟩
  | 70 => ⟨S4x2048x256, .f32⟩
  | 71 => ⟨S4x2048x256, .f32⟩
  | 72 => ⟨S1x1x256, .f32⟩
  | 73 => ⟨S4x2048x256, .f32⟩
  | 74 => ⟨S4x2048x256, .f32⟩
  | 75 => ⟨S4x2048x256, .f32⟩
  | 76 => ⟨S1x1x256, .f32⟩
  | 77 => ⟨S4x2048x256, .f32⟩
  | 78 => ⟨S4x2048x256, .f32⟩
  | 79 => ⟨S_, .f32⟩
  | 80 => ⟨S4x2048x256, .f32⟩
  | 81 => ⟨S4x2048x256, .f32⟩
  | 82 => ⟨S4x2048x256, .f32⟩
  | 83 => ⟨S1x1x256, .f32⟩
  | 84 => ⟨S4x2048x256, .f32⟩
  | 85 => ⟨S4x2048x256, .f32⟩
  | 86 => ⟨S_, .i32⟩
  | 87 => ⟨S4x2048x16, .i32⟩
  | 88 => ⟨S4x2048x16, .i1⟩
  | 89 => ⟨S_, .i32⟩
  | 90 => ⟨S4x2048x16, .i32⟩
  | 91 => ⟨S4x2048x16, .i32⟩
  | 92 => ⟨S4x2048x16, .i32⟩
  | 93 => ⟨S4x2048x16x1, .i32⟩
  | 94 => ⟨S4x2048x16x256, .f32⟩
  | 95 => ⟨S_, .i32⟩
  | 96 => ⟨S4x2048x16, .i32⟩
  | 97 => ⟨S4x2048x16, .i1⟩
  | 98 => ⟨S_, .i32⟩
  | 99 => ⟨S4x2048x16, .i32⟩
  | 100 => ⟨S4x2048x16, .i32⟩
  | 101 => ⟨S4x2048x16, .i32⟩
  | 102 => ⟨S4x2048x16x1, .i32⟩
  | 103 => ⟨S4x2048x16x256, .f32⟩
  | 104 => ⟨S_, .i32⟩
  | 105 => ⟨S4x2048x16, .i32⟩
  | 106 => ⟨S4x2048x16, .i1⟩
  | 107 => ⟨S_, .i32⟩
  | 108 => ⟨S4x2048x16, .i32⟩
  | 109 => ⟨S4x2048x16, .i32⟩
  | 110 => ⟨S4x2048x16, .i32⟩
  | 111 => ⟨S4x2048x16x1, .i32⟩
  | 112 => ⟨S4x2048x16x3, .f32⟩
  | 113 => ⟨S4x2048x1x3, .f32⟩
  | 114 => ⟨S4x2048x16x3, .f32⟩
  | 115 => ⟨S4x2048x16x3, .f32⟩
  | 116 => ⟨S4x2048x3, .f32⟩
  | 117 => ⟨S_, .f32⟩
  | 118 => ⟨S4x2048, .f32⟩
  | 119 => ⟨S4x2048x1, .f32⟩
  | 120 => ⟨S4x2048x1, .f32⟩
  | 121 => ⟨S_, .f32⟩
  | 122 => ⟨S4x2048x1, .f32⟩
  | 123 => ⟨S4x2048x1, .f32⟩
  | 124 => ⟨S4x2048x3, .f32⟩
  | 125 => ⟨S4x2048x3, .f32⟩
  | 126 => ⟨S4x2048x16x3, .f32⟩
  | 127 => ⟨S_, .f32⟩
  | _ => ⟨S4x2048x256, .f32⟩

abbrev hbmTy0_1 (i : Nat) : BufTy := match i % 128 with
  | 0 => ⟨S4x2048x16, .f32⟩
  | 1 => ⟨S4x2048x16x1, .f32⟩
  | 2 => ⟨S_, .f32⟩
  | 3 => ⟨S4x2048x16x1, .f32⟩
  | 4 => ⟨S4x2048x16x1, .f32⟩
  | 5 => ⟨S4x2048x16x1, .f32⟩
  | 6 => ⟨S4x2048x1x3, .f32⟩
  | 7 => ⟨S4x2048x16x3, .f32⟩
  | 8 => ⟨S4x2048x16x3, .f32⟩
  | 9 => ⟨S_, .f32⟩
  | 10 => ⟨S4x2048x16, .f32⟩
  | 11 => ⟨S4x2048x16x1, .f32⟩
  | 12 => ⟨S_, .f32⟩
  | 13 => ⟨S4x2048x16x1, .f32⟩
  | 14 => ⟨S4x2048x16x1, .f32⟩
  | 15 => ⟨S4x2048x16x1, .f32⟩
  | 16 => ⟨S_, .f32⟩
  | 17 => ⟨S4x2048x16x1, .f32⟩
  | 18 => ⟨S4x2048x16x1, .f32⟩
  | 19 => ⟨S_, .f32⟩
  | 20 => ⟨S4x2048x16x1, .f32⟩
  | 21 => ⟨S4x2048x16x1, .f32⟩
  | 22 => ⟨S4x2048x16x1, .f32⟩
  | 23 => ⟨S_, .f32⟩
  | 24 => ⟨S4x2048x16x1, .f32⟩
  | 25 => ⟨S4x2048x16x1, .f32⟩
  | 26 => ⟨S_, .f32⟩
  | 27 => ⟨S4x2048x16x1, .f32⟩
  | 28 => ⟨S4x2048x16x1, .f32⟩
  | 29 => ⟨S4x2048x16x1, .f32⟩
  | 30 => ⟨S_, .f32⟩
  | 31 => ⟨S4x2048x16x1, .f32⟩
  | 32 => ⟨S4x2048x16x1, .f32⟩
  | 33 => ⟨S4x2048x16x1, .f32⟩
  | 34 => ⟨S4x2048x16x1, .f32⟩
  | 35 => ⟨S_, .f32⟩
  | 36 => ⟨S4x2048x16x1, .f32⟩
  | 37 => ⟨S4x2048x16x1, .f32⟩
  | 38 => ⟨S4x2048x16x1, .f32⟩
  | 39 => ⟨S4x2048x16x1, .f32⟩
  | 40 => ⟨S_, .f32⟩
  | 41 => ⟨S4x2048x16x1, .f32⟩
  | 42 => ⟨S4x2048x16x1, .f32⟩
  | 43 => ⟨S4x2048x16x1, .f32⟩
  | 44 => ⟨S4x2048x16x1, .f32⟩
  | 45 => ⟨S_, .f32⟩
  | 46 => ⟨S4x2048x16x1, .f32⟩
  | 47 => ⟨S4x2048x16x1, .f32⟩
  | 48 => ⟨S4x2048x16x1, .f32⟩
  | 49 => ⟨S4x2048x16x1, .f32⟩
  | 50 => ⟨S_, .f32⟩
  | 51 => ⟨S4x2048x16x1, .f32⟩
  | 52 => ⟨S4x2048x16x1, .f32⟩
  | 53 => ⟨S4x2048x16x1, .f32⟩
  | 54 => ⟨S4x2048x16x1, .f32⟩
  | 55 => ⟨S_, .f32⟩
  | 56 => ⟨S4x2048x16x1, .f32⟩
  | 57 => ⟨S4x2048x16x1, .f32⟩
  | 58 => ⟨S4x2048x16x1, .f32⟩
  | 59 => ⟨S4x2048x16x1, .f32⟩
  | 60 => ⟨S_, .f32⟩
  | 61 => ⟨S4x2048x16x1, .f32⟩
  | 62 => ⟨S4x2048x16x1, .f32⟩
  | 63 => ⟨S4x2048x16x1, .f32⟩
  | 64 => ⟨S4x2048x16x1, .f32⟩
  | 65 => ⟨S_, .f32⟩
  | 66 => ⟨S4x2048x16x1, .f32⟩
  | 67 => ⟨S4x2048x16x1, .i1⟩
  | 68 => ⟨S_, .f32⟩
  | 69 => ⟨S4x2048x16x1, .f32⟩
  | 70 => ⟨S4x2048x16x1, .f32⟩
  | 71 => ⟨S4x2048x16x1, .f32⟩
  | 72 => ⟨S4x2048x16x2, .f32⟩
  | 73 => ⟨S4x2048x16x256, .f32⟩
  | 74 => ⟨S1x1x1x256, .f32⟩
  | 75 => ⟨S4x2048x16x256, .f32⟩
  | 76 => ⟨S4x2048x16x256, .f32⟩
  | 77 => ⟨S_, .f32⟩
  | 78 => ⟨S4x2048x16x256, .f32⟩
  | 79 => ⟨S4x2048x16x256, .f32⟩
  | 80 => ⟨S4x2048x16x256, .f32⟩
  | 81 => ⟨S1x1x1x256, .f32⟩
  | 82 => ⟨S4x2048x16x256, .f32⟩
  | 83 => ⟨S4x2048x16x256, .f32⟩
  | 84 => ⟨S4x2048x16x256, .f32⟩
  | 85 => ⟨S4x2048x16x256, .f32⟩
  | 86 => ⟨S4x2048x1x256, .f32⟩
  | 87 => ⟨S4x2048x16x256, .f32⟩
  | 88 => ⟨S4x2048x16x16, .f32⟩
  | 89 => ⟨S_, .f32⟩
  | 90 => ⟨S4x2048x16x16, .f32⟩
  | 91 => ⟨S4x2048x16x16, .f32⟩
  | 92 => ⟨S_, .f32⟩
  | 93 => ⟨S4x2048x16, .f32⟩
  | 94 => ⟨S_, .f32⟩
  | 95 => ⟨S4x2048x16, .f32⟩
  | 96 => ⟨S4x2048x16, .f32⟩
  | 97 => ⟨S4x2048x16x1, .f32⟩
  | 98 => ⟨S4x2048x16x16, .f32⟩
  | 99 => ⟨S4x2048x16x16, .f32⟩
  | 100 => ⟨S4x2048x16x16, .f32⟩
  | 101 => ⟨S_, .f32⟩
  | 102 => ⟨S4x2048x16, .f32⟩
  | 103 => ⟨S4x2048x16x1, .f32⟩
  | 104 => ⟨S4x2048x16x16, .f32⟩
  | 105 => ⟨S4x2048x16x16, .f32⟩
  | 106 => ⟨S4x2048x16x256, .f32⟩
  | 107 => ⟨S_, .f32⟩
  | 108 => ⟨S4x2048x256, .f32⟩
  | 109 => ⟨S_, .f32⟩
  | 110 => ⟨S4x2048x256, .f32⟩
  | 111 => ⟨S4x2048x256, .f32⟩
  | 112 => ⟨S4x2048x256, .f32⟩
  | 113 => ⟨S1x1x256, .f32⟩
  | 114 => ⟨S4x2048x256, .f32⟩
  | 115 => ⟨S4x2048x256, .f32⟩
  | 116 => ⟨S_, .f32⟩
  | 117 => ⟨S4x2048x256, .f32⟩
  | 118 => ⟨S4x2048x256, .f32⟩
  | 119 => ⟨S4x2048x256, .f32⟩
  | 120 => ⟨S1x1x256, .f32⟩
  | 121 => ⟨S4x2048x256, .f32⟩
  | 122 => ⟨S4x2048x256, .f32⟩
  | 123 => ⟨S4x2048x256, .f32⟩
  | 124 => ⟨S_, .f32⟩
  | 125 => ⟨S4x2048, .f32⟩
  | 126 => ⟨S4x2048x1, .f32⟩
  | 127 => ⟨S_, .f32⟩
  | _ => ⟨S4x2048x256, .f32⟩

abbrev hbmTy0_2 (i : Nat) : BufTy := match i % 128 with
  | 0 => ⟨S4x2048x1, .f32⟩
  | 1 => ⟨S4x2048x1, .f32⟩
  | 2 => ⟨S4x2048x256, .f32⟩
  | 3 => ⟨S4x2048x256, .f32⟩
  | 4 => ⟨S4x2048x256, .f32⟩
  | 5 => ⟨S4x2048x256, .f32⟩
  | 6 => ⟨S4x2048x256, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S4x2048x256, .f32⟩
  | 14 => ⟨S4x2048x256, .f32⟩
  | 15 => ⟨S_, .f32⟩
  | 16 => ⟨S4x2048x1, .f32⟩
  | 17 => ⟨S4x2048x1, .f32⟩
  | 18 => ⟨S4x2048x1, .f32⟩
  | 19 => ⟨S4x2048x256, .f32⟩
  | 20 => ⟨S4x2048x256, .f32⟩
  | 21 => ⟨S1x1x256, .f32⟩
  | 22 => ⟨S4x2048x256, .f32⟩
  | 23 => ⟨S4x2048x256, .f32⟩
  | 24 => ⟨S1x1x256, .f32⟩
  | 25 => ⟨S4x2048x256, .f32⟩
  | 26 => ⟨S4x2048x256, .f32⟩
  | 27 => ⟨S8192x256, .f32⟩
  | _ => ⟨S4x2048x256, .f32⟩

abbrev hbmTy (i : Nat) : BufTy := match i / 128 with
  | 0 => hbmTy0_0 i
  | 1 => hbmTy0_1 i
  | 2 => hbmTy0_2 i
  | _ => ⟨S4x2048x256, .f32⟩

abbrev bufTy : (tb : Table) → Fin (tcTables nBuf tb) → BufTy
  | .hbm, ⟨i, _⟩ => hbmTy i
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v16 : Ref sig .tc := ⟨.hbm, 49, rfl⟩
abbrev main_v17 : Ref sig .tc := ⟨.hbm, 50, rfl⟩
abbrev main_values : Ref sig .tc := ⟨.hbm, 51, rfl⟩
abbrev main_indices : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c : Ref sig .tc := ⟨.hbm, 86, rfl⟩
abbrev main_v48 : Ref sig .tc := ⟨.hbm, 87, rfl⟩
abbrev main_v49 : Ref sig .tc := ⟨.hbm, 88, rfl⟩
abbrev main_c_7 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_8 : Ref sig .tc := ⟨.hbm, 95, rfl⟩
abbrev main_v55 : Ref sig .tc := ⟨.hbm, 96, rfl⟩
abbrev main_v56 : Ref sig .tc := ⟨.hbm, 97, rfl⟩
abbrev main_c_9 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_10 : Ref sig .tc := ⟨.hbm, 104, rfl⟩
abbrev main_v62 : Ref sig .tc := ⟨.hbm, 105, rfl⟩
abbrev main_v63 : Ref sig .tc := ⟨.hbm, 106, rfl⟩
abbrev main_c_11 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_12 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_13 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_14 : Ref sig .tc := ⟨.hbm, 127, rfl⟩
abbrev main_v81 : Ref sig .tc := ⟨.hbm, 128, rfl⟩
abbrev main_v82 : Ref sig .tc := ⟨.hbm, 129, rfl⟩
abbrev main_cst_15 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_16 : Ref sig .tc := ⟨.hbm, 137, rfl⟩
abbrev main_v89 : Ref sig .tc := ⟨.hbm, 138, rfl⟩
abbrev main_v90 : Ref sig .tc := ⟨.hbm, 139, rfl⟩
abbrev main_cst_17 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_18 : Ref sig .tc := ⟨.hbm, 144, rfl⟩
abbrev main_v94 : Ref sig .tc := ⟨.hbm, 145, rfl⟩
abbrev main_v95 : Ref sig .tc := ⟨.hbm, 146, rfl⟩
abbrev main_cst_19 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_20 : Ref sig .tc := ⟨.hbm, 151, rfl⟩
abbrev main_v99 : Ref sig .tc := ⟨.hbm, 152, rfl⟩
abbrev main_v100 : Ref sig .tc := ⟨.hbm, 153, rfl⟩
abbrev main_cst_21 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_22 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_23 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_24 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_25 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_26 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_27 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_28 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_29 : Ref sig .tc := ⟨.hbm, 193, rfl⟩
abbrev main_v132 : Ref sig .tc := ⟨.hbm, 194, rfl⟩
abbrev main_v133 : Ref sig .tc := ⟨.hbm, 195, rfl⟩
abbrev main_cst_30 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_cst_31 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_32 : Ref sig .tc := ⟨.hbm, 217, rfl⟩
abbrev main_v153 : Ref sig .tc := ⟨.hbm, 218, rfl⟩
abbrev main_v154 : Ref sig .tc := ⟨.hbm, 219, rfl⟩
abbrev main_cst_33 : Ref sig .tc := ⟨.hbm, 220, rfl⟩
abbrev main_v155 : Ref sig .tc := ⟨.hbm, 221, rfl⟩
abbrev main_cst_34 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_35 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_cst_36 : Ref sig .tc := ⟨.hbm, 235, rfl⟩
abbrev main_v167 : Ref sig .tc := ⟨.hbm, 236, rfl⟩
abbrev main_cst_37 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_38 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_39 : Ref sig .tc := ⟨.hbm, 252, rfl⟩
abbrev main_v181 : Ref sig .tc := ⟨.hbm, 253, rfl⟩
abbrev main_v182 : Ref sig .tc := ⟨.hbm, 254, rfl⟩
abbrev main_cst_40 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_41 : Ref sig .tc := ⟨.hbm, 263, rfl⟩
abbrev main_v190 : Ref sig .tc := ⟨.hbm, 264, rfl⟩
abbrev main_v191 : Ref sig .tc := ⟨.hbm, 265, rfl⟩
abbrev main_cst_42 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_43 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩

abbrev nD : Nat := 1
abbrev τ : Topo := Topo.v7x

variable {F : FTy → Type} [FloatOps F]
-- ==== Proof.Ref.lean ====
module

public import proofs.«01_k».proof.Proof.Gen.ReferenceIdeal.Read

@[expose] public section

end
-- ==== Proof.Pre.lean ====
/-
  What the precondition says, read at an entry: the mask excludes no pair, and the arrays it names hold real numbers.
-/
module

public import proofs.«01_k».proof.Proof.Gen.Pre_finite_unmasked
public import Idealize.ShloMosaic.PureOps.Ideal
public import Idealize.ShloMosaic.Lib.ReduceAll
public import Idealize.ShloMosaic.Lib.Pointwise

@[expose] public section

noncomputable section

namespace Cert.Pre_finite_unmasked

open Idealize.ShloMosaic

/-- Every entry is a real number. -/
def IsReal {s : Shape} (x : FVec Ideal s .f32) : Prop := ∀ i, ∃ r : ℝ, x i = ((r : ℝ) : EReal)

/-- There is one index of the empty shape. -/
instance : Subsingleton S_.Idx := ⟨fun a b => funext fun k => k.elim0⟩

/-- A conjunction of bits that is one is of two ones. -/
theorem conj (a b : IVec S_ 1) (h : andi a b = fun _ => 1#1) : a = (fun _ => 1#1) ∧ b = fun _ => 1#1 := by
  constructor <;> funext i
  · exact (IntOp.andi_eq_one.mp (congrFun h i)).1
  · exact (IntOp.andi_eq_one.mp (congrFun h i)).2

/-- An array all of whose absolute values are below +∞ holds real numbers. -/
theorem real_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32)))
      (constantI S_ 1 1#1) h hu = fun _ => 1#1) : IsReal x := by
  intro i
  have := Host.reduce_andi_all _ _ h hu _ (congrFun e (Shape.Idx.first hu)) i
  have h1 : (max (x i) (-(x i)) : EReal) < ⊤ := by
    by_contra hno
    have ht : Ideal.ofBits .f32 0x7F800000#32 = ⊤ := by simp [Ideal.ofBits, Ideal.ieee]
    pointwise at this
    rw [ht] at this
    have hd : decide ((max (x i) (-(x i)) : EReal) < ⊤) = true := by
      by_contra hc
      rw [Bool.not_eq_true] at hc
      exact absurd (this.symm.trans (congrArg BitVec.ofBool hc)) (by decide)
    exact hno (of_decide_eq_true hd)
  have h2 := max_lt_iff.mp h1
  have hb : x i ≠ (⊥ : EReal) := fun hx => by
    rw [hx] at h2; exact absurd h2.2 (by simp)
  exact ⟨(x i : EReal).toReal, (EReal.coe_toReal h2.1.ne hb).symm⟩

/-- An array that nowhere equals zero by the comparison is nowhere zero. -/
theorem ne_zero_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .une x (broadcastInDim s ![] hb (constant S_ .f32 0x00000000#32)))
      (constantI S_ 1 1#1) h hu = fun _ => 1#1) : ∀ i, x i ≠ (0 : EReal) := by
  intro i
  have := Host.reduce_andi_all _ _ h hu _ (congrFun e (Shape.Idx.first hu)) i
  pointwise at this
  intro h0
  have hc : decide (x i ≠ (0 : EReal)) = false := by simp [h0]
  exact absurd (this.symm.trans (congrArg BitVec.ofBool hc)) (by decide)

/-- The precondition's content. -/
theorem content (a0 : FVec Ideal S4x2048x256 .f32) (a1 : FVec Ideal S4x2048x3 .f32) (a2 : FVec Ideal S4x2048x3 .f32) (a3 : FVec Ideal S4x2048x2048 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x256 .f32) (a13 : FVec Ideal S256 .f32) (a14 : FVec Ideal S256x256 .f32) (a15 : FVec Ideal S256 .f32) (a16 : FVec Ideal S256x2 .f32) (a17 : FVec Ideal S256 .f32) (a18 : FVec Ideal S256x256 .f32) (a19 : FVec Ideal S256 .f32) (a20 : FVec Ideal S256x256 .f32) (a21 : FVec Ideal S256 .f32) (a22 : FVec Ideal S256x256 .f32) (a23 : FVec Ideal S256 .f32) (a24 : FVec Ideal S256 .f32) (a25 : FVec Ideal S256 .f32)
    (h : fn (F := Ideal) a0 a1 a2 a3 a4 a5 a6 a7 a8 a9 a10 a11 a12 a13 a14 a15 a16 a17 a18 a19 a20 a21 a22 a23 a24 a25 = fun _ => 1#1) :
    (∀ i, a3 i ≠ (0 : EReal)) ∧ IsReal a0 ∧ IsReal a1 ∧ IsReal a8 ∧ IsReal a9 ∧ IsReal a10 ∧ IsReal a11 ∧ IsReal a16 ∧ IsReal a17 ∧ IsReal a18 ∧ IsReal a19 := by
  dsimp only [fn, fn_part1, fn_part2, fn_part3] at h
  obtain ⟨h, h19⟩ := conj _ _ h
  obtain ⟨h, h18⟩ := conj _ _ h
  obtain ⟨h, h17⟩ := conj _ _ h
  obtain ⟨h, h16⟩ := conj _ _ h
  obtain ⟨h, h11⟩ := conj _ _ h
  obtain ⟨h, h10⟩ := conj _ _ h
  obtain ⟨h, h9⟩ := conj _ _ h
  obtain ⟨h, h8⟩ := conj _ _ h
  obtain ⟨h, h1⟩ := conj _ _ h
  obtain ⟨h, h0⟩ := conj _ _ h
  exact ⟨ne_zero_of_all _ _ _ _ h, real_of_all _ _ _ _ h0, real_of_all _ _ _ _ h1, real_of_all _ _ _ _ h8, real_of_all _ _ _ _ h9, real_of_all _ _ _ _ h10, real_of_all _ _ _ _ h11, real_of_all _ _ _ _ h16, real_of_all _ _ _ _ h17, real_of_all _ _ _ _ h18, real_of_all _ _ _ _ h19⟩

end Cert.Pre_finite_unmasked

end
-- ==== Proof.Run.lean ====
/-
  The kernel's run with what its result buffer ends at.
-/
module

public import proofs.«01_k».proof.Proof.Gen.KernelIdeal.Frame
public import Idealize.ShloMosaic.PureOps.Ideal

@[expose] public section

set_option maxRecDepth 16384

noncomputable section

namespace Cert.KernelIdeal

open Idealize.ShloMosaic Idealize.ShloMosaic.TcCoe Cert.KernelIdeal.Gen Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (l : Loc nD τ sig) → Buf (Elt Ideal) l) (ρ : Dev nD → PrngReg)

set_option backward.isDefEq.respectTransparency.types false in
/-- From any memory with zero counters every execution of the kernel terminates with the result buffer at what the third
    region leaves and the arguments as launched: the launch over the regions, the last contents read at the result and at
    each argument. -/
theorem run : θ_run defs (onTc (τ := τ) (main (F := Ideal))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c)⟩)

end Cert.KernelIdeal
-- ==== Proof.Host.lean ====
/-
  The kernel's host operations between its regions, read at an index: reshapes, transposes, the geometry table, and the rows
  gathered for every point's neighbours.
-/
module

public import proofs.«01_k».proof.Proof.Gen.KernelIdeal.Frame
public import Idealize.ShloMosaic.Lib.Pointwise
public import Idealize.ShloMosaic.Lib.Routing.Ops

@[expose] public section

noncomputable section

namespace Cert.KernelIdeal

open Idealize.ShloMosaic Idealize.ShloMosaic.TcCoe Cert.KernelIdeal.Gen

variable (W : Valuation τ sig (Elt Ideal))

/-- The row of the flattened arrays that is point `n` of batch `b`. -/
def flatRow (b : Fin 4) (n : Fin 2048) : Fin 8192 := ⟨b.val * 2048 + n.val, by omega⟩

/-- The batch of a flat row. -/
theorem flatRow_div (b : Fin 4) (n : Fin 2048) (h : (flatRow b n).val / 2048 < 4) : (⟨(flatRow b n).val / 2048, h⟩ : Fin 4) = b :=
  Fin.ext (by show (b.val * 2048 + n.val) / 2048 = b.val; have := n.isLt; omega)
/-- The point of a flat row. -/
theorem flatRow_mod (b : Fin 4) (n : Fin 2048) (h : (flatRow b n).val % 2048 < 2048) : (⟨(flatRow b n).val % 2048, h⟩ : Fin 2048) = n :=
  Fin.ext (by show (b.val * 2048 + n.val) % 2048 = n.val; have := n.isLt; omega)

/-! ## Before the first region -/

/-- The points' features flattened over the batches. -/
theorem host0_v0 (b : Fin 4) (n : Fin 2048) (i : Fin 256) :
    (StableHlo.after hostOps0 W (Proc.devRef .tc main_v0) : Vec Ideal S8192x256 .f32) (ix2 (flatRow b n) i)
      = (W (Proc.devRef .tc main_arg0) : Vec Ideal S4x2048x256 .f32) (ix3 b n i) := by
  after_results
  generalize W (Proc.devRef .tc main_arg0) = x
  have h : (shapeCast S8192x256 (x : Vec Ideal S4x2048x256 .f32) shapeCasts_S4x2048x256_S8192x256) (ix2 (flatRow b n) i)
      = (x : Vec Ideal S4x2048x256 .f32) (ix3 b n i) := by
    pointwise []
    rw [flatRow_div, flatRow_mod]
  exact h

/-- A transposed weight. -/
theorem host0_v1 (i o : Fin 256) : (StableHlo.after hostOps0 W (Proc.devRef .tc main_v1) : Vec Ideal S256x256 .f32) (ix2 i o)
      = (W (Proc.devRef .tc main_arg4) : Vec Ideal S256x256 .f32) (ix2 o i) := by
  after_results
  generalize W (Proc.devRef .tc main_arg4) = x
  pointwise []

/-- A transposed weight. -/
theorem host0_v2 (i o : Fin 256) : (StableHlo.after hostOps0 W (Proc.devRef .tc main_v2) : Vec Ideal S256x256 .f32) (ix2 i o)
      = (W (Proc.devRef .tc main_arg6) : Vec Ideal S256x256 .f32) (ix2 o i) := by
  after_results
  generalize W (Proc.devRef .tc main_arg6) = x
  pointwise []

/-- A transposed weight. -/
theorem host0_v3 (i o : Fin 256) : (StableHlo.after hostOps0 W (Proc.devRef .tc main_v3) : Vec Ideal S256x256 .f32) (ix2 i o)
      = (W (Proc.devRef .tc main_arg8) : Vec Ideal S256x256 .f32) (ix2 o i) := by
  after_results
  generalize W (Proc.devRef .tc main_arg8) = x
  pointwise []

/-- A transposed weight. -/
theorem host0_v4 (i o : Fin 256) : (StableHlo.after hostOps0 W (Proc.devRef .tc main_v4) : Vec Ideal S256x256 .f32) (ix2 i o)
      = (W (Proc.devRef .tc main_arg10) : Vec Ideal S256x256 .f32) (ix2 o i) := by
  after_results
  generalize W (Proc.devRef .tc main_arg10) = x
  pointwise []

/-- A transposed weight. -/
theorem host0_v5 (i o : Fin 256) : (StableHlo.after hostOps0 W (Proc.devRef .tc main_v5) : Vec Ideal S256x256 .f32) (ix2 i o)
      = (W (Proc.devRef .tc main_arg12) : Vec Ideal S256x256 .f32) (ix2 o i) := by
  after_results
  generalize W (Proc.devRef .tc main_arg12) = x
  pointwise []

/-- A transposed weight. -/
theorem host0_v6 (i o : Fin 256) : (StableHlo.after hostOps0 W (Proc.devRef .tc main_v6) : Vec Ideal S256x256 .f32) (ix2 i o)
      = (W (Proc.devRef .tc main_arg14) : Vec Ideal S256x256 .f32) (ix2 o i) := by
  after_results
  generalize W (Proc.devRef .tc main_arg14) = x
  pointwise []

/-! ## Before the second region -/

/-- The geometry table: positions, normals, and two columns of zeros. -/
def geometry (p v : Vec Ideal S4x2048x3 .f32) : Vec Ideal S4x2048x8 .f32 :=
  concatenate S4x2048x8 2 [⟨S4x2048x3, p⟩, ⟨S4x2048x3, v⟩,
    ⟨S4x2048x2, (broadcastInDim S4x2048x2 ![] bcast_S_S4x2048x2 (constant (F := Ideal) S_ .f32 0x00000000#32) : Vec Ideal S4x2048x2 .f32)⟩]
    concatenates_S4x2048x3_S4x2048x3_S4x2048x2_S4x2048x8_d2

/-- Its first three lanes. -/
theorem geometry_pos (p v : Vec Ideal S4x2048x3 .f32) (b : Fin 4) (n : Fin 2048) (c : Fin 3) (h : c.val < 8) :
    geometry p v (ix3 b n ⟨c.val, h⟩) = p (ix3 b n c) := by
  fin_cases c <;> pointwise [geometry] <;> rfl

/-- Its next three lanes. -/
theorem geometry_nrm (p v : Vec Ideal S4x2048x3 .f32) (b : Fin 4) (n : Fin 2048) (c : Fin 3) (h : 3 + c.val < 8) :
    geometry p v (ix3 b n ⟨3 + c.val, h⟩) = v (ix3 b n c) := by
  fin_cases c <;> pointwise [geometry] <;> rfl

/-- What the first two operations leave: the zero columns, and the arguments as they were. -/
abbrev W8 : Valuation τ sig (Elt Ideal) := StableHlo.after (hostOps1.take 2) W

/-- The first two operations leave the positions. -/
theorem W8_pos : W8 W (Proc.devRef .tc main_arg1) = W (Proc.devRef .tc main_arg1) := by
  simp only [W8, hostOps1, List.take]
  after_results
/-- The first two operations leave the normals. -/
theorem W8_nrm : W8 W (Proc.devRef .tc main_arg2) = W (Proc.devRef .tc main_arg2) := by
  simp only [W8, hostOps1, List.take]
  after_results
/-- The padding is zero. -/
theorem W8_zero : (W8 W (Proc.devRef .tc main_v8) : Vec Ideal S4x2048x2 .f32)
    = broadcastInDim S4x2048x2 ![] bcast_S_S4x2048x2 (constant (F := Ideal) S_ .f32 0x00000000#32) := by
  simp only [W8, hostOps1, List.take]
  after_results

/-- The geometry table is made of the positions and the normals. -/
theorem geometry_W8 : concatenate S4x2048x8 2 [⟨S4x2048x3, (W8 W (Proc.devRef .tc main_arg1) : Vec Ideal S4x2048x3 .f32)⟩,
      ⟨S4x2048x3, (W8 W (Proc.devRef .tc main_arg2) : Vec Ideal S4x2048x3 .f32)⟩,
      ⟨S4x2048x2, (W8 W (Proc.devRef .tc main_v8) : Vec Ideal S4x2048x2 .f32)⟩] concatenates_S4x2048x3_S4x2048x3_S4x2048x2_S4x2048x8_d2
    = geometry (W (Proc.devRef .tc main_arg1)) (W (Proc.devRef .tc main_arg2)) := by
  rw [W8_pos, W8_nrm, W8_zero]
  rfl

/-- The geometry table after the operations. -/
theorem host1_v9 : (StableHlo.after hostOps1 W (Proc.devRef .tc main_v9) : Vec Ideal S4x2048x8 .f32)
      = geometry (W (Proc.devRef .tc main_arg1)) (W (Proc.devRef .tc main_arg2)) := by
  rw [← geometry_W8]
  generalize hV : W8 W = V
  after_results
  rw [← hV]
  simp only [W8, hostOps1, List.take, StableHlo.after_cons, StableHlo.after_nil]
  rfl

/-- The positions with their axes exchanged. -/
theorem host1_v11 (b : Fin 4) (c : Fin 3) (n : Fin 2048) :
    (StableHlo.after hostOps1 W (Proc.devRef .tc main_v11) : Vec Ideal S4x3x2048 .f32) (ix3 b c n)
      = (W (Proc.devRef .tc main_arg1) : Vec Ideal S4x2048x3 .f32) (ix3 b n c) := by
  have e : (StableHlo.after hostOps1 W (Proc.devRef .tc main_v11) : Vec Ideal S4x3x2048 .f32)
      = transpose S4x3x2048 [0, 2, 1] (extractStridedSlice S4x2048x3 ![0, 0, 0]
          (geometry (W (Proc.devRef .tc main_arg1)) (W (Proc.devRef .tc main_arg2))) slices_S4x2048x8_S4x2048x3_0_0_0)
          transposes_S4x2048x3_S4x3x2048_0_2_1 := by
    rw [← geometry_W8]
    generalize hV : W8 W = V
    after_results
    rw [← hV]
    simp only [W8, hostOps1, List.take, StableHlo.after_cons, StableHlo.after_nil]
    rfl
  rw [e]
  refine Eq.trans ?_ (geometry_pos (W (Proc.devRef .tc main_arg1)) (W (Proc.devRef .tc main_arg2)) b n c (by omega))
  generalize geometry _ _ = g
  pointwise []

/-! ## Before the third region -/

/-- The flattened neighbour numbers, each moved to its batch's rows. -/
def flat (z : IVec S4x2048x16 32) : IVec S131072 32 :=
  shapeCast S131072 (addi z (broadcastInDim S4x2048x16 ![0, 1, 2] bcast_S4x1x1_S4x2048x16_0_1_2
    (broadcastInDim S4x1x1 ![0] bcast_S4_S4x1x1_0 (muli (iotaInDim S4 32 0) (broadcastInDim S4 ![] bcast_S_S4 (constantI S_ 32 2048#32))))))
    shapeCasts_S4x2048x16_S131072

/-- The rows to gather: the flattened numbers, a negative one moved up by the number of rows. -/
def rows (z : IVec S4x2048x16 32) : IVec S131072x1 32 :=
  broadcastInDim S131072x1 ![0] bcast_S131072_S131072x1_0
    (select (cmpi .slt (flat z) (broadcastInDim S131072 ![] bcast_S_S131072 (constantI S_ 32 0#32)))
      (addi (flat z) (broadcastInDim S131072 ![] bcast_S_S131072 (constantI S_ 32 8192#32))) (flat z))

/-- The place in the flattened list of neighbour `k` of point `n` of batch `b`. -/
def place (b : Fin 4) (n : Fin 2048) (k : Fin 16) : Fin 131072 := ⟨(b.val * 2048 + n.val) * 16 + k.val, by omega⟩

/-- The batch of a neighbour's place. -/
theorem place_batch (b : Fin 4) (n : Fin 2048) (k : Fin 16) (h : (place b n k).val / 32768 < 4) : (⟨(place b n k).val / 32768, h⟩ : Fin 4) = b :=
  Fin.ext (by show ((b.val * 2048 + n.val) * 16 + k.val) / 32768 = b.val; have := n.isLt; have := k.isLt; omega)
/-- The point of a neighbour's place. -/
theorem place_point (b : Fin 4) (n : Fin 2048) (k : Fin 16) (h : (place b n k).val / 16 % 2048 < 2048) : (⟨(place b n k).val / 16 % 2048, h⟩ : Fin 2048) = n :=
  Fin.ext (by show ((b.val * 2048 + n.val) * 16 + k.val) / 16 % 2048 = n.val; have := n.isLt; have := k.isLt; omega)
/-- The round of a neighbour's place. -/
theorem place_round (b : Fin 4) (n : Fin 2048) (k : Fin 16) (h : (place b n k).val % 16 < 16) : (⟨(place b n k).val % 16, h⟩ : Fin 16) = k :=
  Fin.ext (by show ((b.val * 2048 + n.val) * 16 + k.val) % 16 = k.val; have := k.isLt; omega)

/-- A flattened number at its place. -/
theorem flat_at (z : IVec S4x2048x16 32) (b : Fin 4) (n : Fin 2048) (k : Fin 16) (j : Fin 2048) (h : z (ix3 b n k) = BitVec.ofNat 32 j.val) :
    flat z (ix1 (place b n k)) = BitVec.ofNat 32 (flatRow b j).val := by
  have e : flat z (ix1 (place b n k)) = IntOp.addi (z (ix3 b n k)) (IntOp.muli (BitVec.ofNat 32 b.val) 2048#32) := by
    pointwise [flat]
    rw [place_batch, place_point, place_round, show (place b n k).val / 32768 = b.val by
      show ((b.val * 2048 + n.val) * 16 + k.val) / 32768 = b.val; have := n.isLt; have := k.isLt; omega]
  rw [e, h]
  show BitVec.ofNat 32 j.val + BitVec.ofNat 32 b.val * BitVec.ofNat 32 2048 = BitVec.ofNat 32 (b.val * 2048 + j.val)
  rw [← BitVec.ofNat_mul, ← BitVec.ofNat_add, Nat.add_comm]

/-- The row gathered at a place. -/
theorem rows_at (z : IVec S4x2048x16 32) (p : Fin 131072) (j : Fin 8192) (h : flat z (ix1 p) = BitVec.ofNat 32 j.val) :
    rows z (ix2 p (0 : Fin 1)) = BitVec.ofNat 32 j.val := by
  unfold rows
  generalize flat z = y at h
  have e : IntOp.cmpi CmpIPredicate.slt (BitVec.ofNat 32 j.val) 0#32 = 0#1 := by
    have ej : (BitVec.ofNat 32 j.val).toInt = j.val := Idealize.ShloMosaic.WordCmp.toInt_ofNat_of_lt (by have := j.isLt; omega)
    show BitVec.ofBool ((BitVec.ofNat 32 j.val).slt 0#32) = 0#1
    rw [BitVec.slt_eq_decide, ej]
    have e0 : decide (((j.val : Nat) : Int) < (0#32 : BitVec 32).toInt) = false := decide_eq_false (by simp)
    rw [e0]
    rfl
  pointwise []
  rw [h, e]
  rfl

/-- Row `j` of a table of 256 columns, gathered for a neighbour. -/
theorem gather256 (x : Vec Ideal S8192x256 .f32) (z : IVec S4x2048x16 32) (b : Fin 4) (n : Fin 2048) (k : Fin 16) (j : Fin 2048)
    (h : z (ix3 b n k) = BitVec.ofNat 32 j.val) (i : Fin 256) :
    Host.gather gather_S8192x256_S131072x1_S131072x256_1_0_n_n_0_1_1256 x (rows z) (ix2 (place b n k) i) = x (ix2 (flatRow b j) i) :=
  Routing.gather_row (nb := 8192) (B := 256) (n := 131072) gather_S8192x256_S131072x1_S131072x256_1_0_n_n_0_1_1256 rfl rfl rfl rfl rfl x (rows z)
    (place b n k) i (flatRow b j) (rows_at z _ _ (flat_at z b n k j h)) (by omega)

/-- Row `j` of the geometry table, gathered for a neighbour. -/
theorem gather8 (x : Vec Ideal S8192x8 .f32) (z : IVec S4x2048x16 32) (b : Fin 4) (n : Fin 2048) (k : Fin 16) (j : Fin 2048)
    (h : z (ix3 b n k) = BitVec.ofNat 32 j.val) (i : Fin 8) :
    Host.gather gather_S8192x8_S131072x1_S131072x8_1_0_n_n_0_1_18 x (rows z) (ix2 (place b n k) i) = x (ix2 (flatRow b j) i) :=
  Routing.gather_row (nb := 8192) (B := 8) (n := 131072) gather_S8192x8_S131072x1_S131072x8_1_0_n_n_0_1_18 rfl rfl rfl rfl rfl x (rows z)
    (place b n k) i (flatRow b j) (rows_at z _ _ (flat_at z b n k j h)) (by omega)

/-- The block of 256 points a row lies in. -/
def tileOf (g : Fin 8192) : Fin 32 := ⟨g.val / 256, by omega⟩
/-- Its row in the block. -/
def inTile (g : Fin 8192) : Fin 256 := ⟨g.val % 256, by omega⟩

/-- The flattened list of 256-column rows, cut into blocks. -/
theorem blocks256 (y : Vec Ideal S131072x256 .f32) (b : Fin 4) (n : Fin 2048) (k : Fin 16) (i : Fin 256) :
    (shapeCast S32x256x16x256 y shapeCasts_S131072x256_S32x256x16x256) (ix4 (tileOf (flatRow b n)) (inTile (flatRow b n)) k i)
      = y (ix2 (place b n k) i) := by
  pointwise []
  refine congrArg (fun p : Fin 131072 => y (ix2 p i)) (Fin.ext ?_)
  show _ = (b.val * 2048 + n.val) * 16 + k.val
  have e1 : (tileOf (flatRow b n)).val = (b.val * 2048 + n.val) / 256 := rfl
  have e2 : (inTile (flatRow b n)).val = (b.val * 2048 + n.val) % 256 := rfl
  simp only [e1, e2]
  omega

/-- The flattened list of geometry rows, cut into blocks. -/
theorem blocks8 (y : Vec Ideal S131072x8 .f32) (b : Fin 4) (n : Fin 2048) (k : Fin 16) (i : Fin 8) :
    (shapeCast S32x256x16x8 y shapeCasts_S131072x8_S32x256x16x8) (ix4 (tileOf (flatRow b n)) (inTile (flatRow b n)) k i)
      = y (ix2 (place b n k) i) := by
  pointwise []
  refine congrArg (fun p : Fin 131072 => y (ix2 p i)) (Fin.ext ?_)
  show _ = (b.val * 2048 + n.val) * 16 + k.val
  have e1 : (tileOf (flatRow b n)).val = (b.val * 2048 + n.val) / 256 := rfl
  have e2 : (inTile (flatRow b n)).val = (b.val * 2048 + n.val) % 256 := rfl
  simp only [e1, e2]
  omega

/-- The geometry table flattened over the batches. -/
theorem flatGeometry (x : Vec Ideal S4x2048x8 .f32) (b : Fin 4) (n : Fin 2048) (i : Fin 8) :
    (shapeCast S8192x8 x shapeCasts_S4x2048x8_S8192x8) (ix2 (flatRow b n) i) = x (ix3 b n i) := by
  pointwise []
  rw [flatRow_div, flatRow_mod]

variable (z : IVec S4x2048x16 32) (hz : (W (Proc.devRef .tc main_v12) : IVec S4x2048x16 32) = z)

include hz

/-- The neighbours' keys. -/
theorem host2_v47 (b : Fin 4) (n : Fin 2048) (k : Fin 16) (j : Fin 2048) (h : z (ix3 b n k) = BitVec.ofNat 32 j.val) (i : Fin 256) :
    (StableHlo.after hostOps2 W (Proc.devRef .tc main_v47) : Vec Ideal S32x256x16x256 .f32) (ix4 (tileOf (flatRow b n)) (inTile (flatRow b n)) k i)
      = (W (Proc.devRef .tc main_v7_1) : Vec Ideal S8192x256 .f32) (ix2 (flatRow b j) i) := by
  have e : (StableHlo.after hostOps2 W (Proc.devRef .tc main_v47) : Vec Ideal S32x256x16x256 .f32)
      = shapeCast S32x256x16x256 (Host.gather gather_S8192x256_S131072x1_S131072x256_1_0_n_n_0_1_1256 (W (Proc.devRef .tc main_v7_1))
          (rows (W (Proc.devRef .tc main_v12)))) shapeCasts_S131072x256_S32x256x16x256 := by
    after_results
    rfl
  rw [e, hz, blocks256]
  exact gather256 _ z b n k j h i

/-- The neighbours' values. -/
theorem host2_v48 (b : Fin 4) (n : Fin 2048) (k : Fin 16) (j : Fin 2048) (h : z (ix3 b n k) = BitVec.ofNat 32 j.val) (i : Fin 256) :
    (StableHlo.after hostOps2 W (Proc.devRef .tc main_v48) : Vec Ideal S32x256x16x256 .f32) (ix4 (tileOf (flatRow b n)) (inTile (flatRow b n)) k i)
      = (W (Proc.devRef .tc main_v7_2) : Vec Ideal S8192x256 .f32) (ix2 (flatRow b j) i) := by
  have e : (StableHlo.after hostOps2 W (Proc.devRef .tc main_v48) : Vec Ideal S32x256x16x256 .f32)
      = shapeCast S32x256x16x256 (Host.gather gather_S8192x256_S131072x1_S131072x256_1_0_n_n_0_1_1256 (W (Proc.devRef .tc main_v7_2))
          (rows (W (Proc.devRef .tc main_v12)))) shapeCasts_S131072x256_S32x256x16x256 := by
    after_results
    rfl
  rw [e, hz, blocks256]
  exact gather256 _ z b n k j h i

/-- The neighbours' geometry. -/
theorem host2_v49 (b : Fin 4) (n : Fin 2048) (k : Fin 16) (j : Fin 2048) (h : z (ix3 b n k) = BitVec.ofNat 32 j.val) (i : Fin 8) :
    (StableHlo.after hostOps2 W (Proc.devRef .tc main_v49) : Vec Ideal S32x256x16x8 .f32) (ix4 (tileOf (flatRow b n)) (inTile (flatRow b n)) k i)
      = (W (Proc.devRef .tc main_v9) : Vec Ideal S4x2048x8 .f32) (ix3 b j i) := by
  have e : (StableHlo.after hostOps2 W (Proc.devRef .tc main_v49) : Vec Ideal S32x256x16x8 .f32)
      = shapeCast S32x256x16x8 (Host.gather gather_S8192x8_S131072x1_S131072x8_1_0_n_n_0_1_18
          (shapeCast S8192x8 (W (Proc.devRef .tc main_v9) : Vec Ideal S4x2048x8 .f32) shapeCasts_S4x2048x8_S8192x8)
          (rows (W (Proc.devRef .tc main_v12)))) shapeCasts_S131072x8_S32x256x16x8 := by
    after_results
    rfl
  rw [e, hz, blocks8]
  exact (gather8 _ z b n k j h i).trans (flatGeometry _ b j i)

omit hz

/-- The points' geometry. -/
theorem host2_v42 (b : Fin 4) (n : Fin 2048) (i : Fin 8) :
    (StableHlo.after hostOps2 W (Proc.devRef .tc main_v42) : Vec Ideal S8192x8 .f32) (ix2 (flatRow b n) i)
      = (W (Proc.devRef .tc main_v9) : Vec Ideal S4x2048x8 .f32) (ix3 b n i) := by
  have e : (StableHlo.after hostOps2 W (Proc.devRef .tc main_v42) : Vec Ideal S8192x8 .f32)
      = shapeCast S8192x8 (W (Proc.devRef .tc main_v9) : Vec Ideal S4x2048x8 .f32) shapeCasts_S4x2048x8_S8192x8 := by
    after_results
    rfl
  rw [e]
  exact flatGeometry _ b n i

/-- The position code's first weight, transposed. -/
theorem host2_v43 (t : Fin 2) (o : Fin 256) : (StableHlo.after hostOps2 W (Proc.devRef .tc main_v43) : Vec Ideal S2x256 .f32) (ix2 t o)
      = (W (Proc.devRef .tc main_arg16) : Vec Ideal S256x2 .f32) (ix2 o t) := by
  after_results
  generalize W (Proc.devRef .tc main_arg16) = x
  pointwise []

/-- A transposed weight. -/
theorem host2_v44 (i o : Fin 256) : (StableHlo.after hostOps2 W (Proc.devRef .tc main_v44) : Vec Ideal S256x256 .f32) (ix2 i o)
      = (W (Proc.devRef .tc main_arg18) : Vec Ideal S256x256 .f32) (ix2 o i) := by
  after_results
  generalize W (Proc.devRef .tc main_arg18) = x
  pointwise []

/-- A transposed weight. -/
theorem host2_v45 (i o : Fin 256) : (StableHlo.after hostOps2 W (Proc.devRef .tc main_v45) : Vec Ideal S256x256 .f32) (ix2 i o)
      = (W (Proc.devRef .tc main_arg20) : Vec Ideal S256x256 .f32) (ix2 o i) := by
  after_results
  generalize W (Proc.devRef .tc main_arg20) = x
  pointwise []

/-- A transposed weight. -/
theorem host2_v46 (i o : Fin 256) : (StableHlo.after hostOps2 W (Proc.devRef .tc main_v46) : Vec Ideal S256x256 .f32) (ix2 i o)
      = (W (Proc.devRef .tc main_arg22) : Vec Ideal S256x256 .f32) (ix2 o i) := by
  after_results
  generalize W (Proc.devRef .tc main_arg22) = x
  pointwise []

end Cert.KernelIdeal
-- ==== Proof.Rounds.lean ====
/-
  The sixteen nearest neighbours by rounds: each round takes the least entry of a row, at its first position, and
  overwrites that entry with +∞. `picks_eq_sortedFrom`: the positions so taken are the first ones of a stable sort of
  the row.
-/
module

public import Idealize.ShloMosaic.Lib.SortPrefix
public import Idealize.ShloMosaic.PureOps.Ideal

@[expose] public section

noncomputable section

namespace Cert.Neighbors

open Idealize.ShloMosaic

/-- Two comparators that agree on pairs taken against the positions' order sort an increasing list alike: an
    insertion compares a later position with an earlier one only. -/
theorem stableSort_congr_lt {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    obtain ⟨ha, hl'⟩ := List.pairwise_cons.mp hl
    unfold stableSort
    rw [ih hl']
    exact insertBefore_congr R R' a _ fun b hb => h a b (ha b ((perm_stableSort R' l).mem_iff.mp hb))

/-- So the two sorting permutations are equal. -/
theorem sortedFrom_congr_lt {n : Nat} (R R' : Fin n → Fin n → Bool) (h : ∀ a b, a < b → R b a = R' b a) :
    sortedFrom R = sortedFrom R' := by
  funext k
  unfold sortedFrom
  have e : sortPositions n R = sortPositions n R' := stableSort_congr_lt R R' h _ (List.pairwise_lt_finRange n)
  rw [List.get_of_eq e]
  rfl

variable {n : Nat} [NeZero n]

/-- Some entry of a row is least. -/
theorem exists_least (c : Fin n → EReal) : (Finset.univ.filter fun j => ∀ i, c j ≤ c i).Nonempty := by
  obtain ⟨j, -, hj⟩ := Finset.exists_min_image (Finset.univ : Finset (Fin n)) c ⟨⟨0, Nat.pos_of_neZero n⟩, Finset.mem_univ _⟩
  exact ⟨j, by simpa using fun i => hj i (Finset.mem_univ i)⟩

/-- The first position of a row's least entry. -/
def pick (c : Fin n → EReal) : Fin n := (Finset.univ.filter fun j => ∀ i, c j ≤ c i).min' (exists_least c)

/-- The row with that entry overwritten by +∞. -/
def next (c : Fin n → EReal) : Fin n → EReal := fun j => if j = pick c then ⊤ else c j

/-- The row after `r` rounds. -/
def after (d : Fin n → EReal) : Nat → Fin n → EReal
  | 0 => d
  | r + 1 => next (after d r)

/-- The position round `r` takes. -/
def picked (d : Fin n → EReal) (r : Nat) : Fin n := pick (after d r)

/-- The picked column's entry is the least. -/
theorem pick_le (c : Fin n → EReal) (i : Fin n) : c (pick c) ≤ c i :=
  (Finset.mem_filter.mp (Finset.min'_mem _ (exists_least c))).2 i

/-- The picked column is the first with the least entry. -/
theorem pick_first (c : Fin n → EReal) (i : Fin n) (h : c i ≤ c (pick c)) : pick c ≤ i :=
  Finset.min'_le _ _ (Finset.mem_filter.mpr ⟨Finset.mem_univ _, fun j => h.trans (pick_le c j)⟩)

/-- `pick` from its two properties. -/
theorem pick_eq (c : Fin n → EReal) (p : Fin n) (hle : ∀ i, c p ≤ c i) (hfirst : ∀ i, c i ≤ c p → p ≤ i) : pick c = p :=
  le_antisymm (pick_first c p (hle _)) (hfirst _ (pick_le c p))

/-- After `r` rounds the entries taken are +∞ and the others are as they were. -/
theorem after_apply (d : Fin n → EReal) (r : Nat) (j : Fin n) :
    after d r j = if ∃ i < r, picked d i = j then ⊤ else d j := by
  classical
  induction r with
  | zero => simp [after]
  | succ r ih =>
    show (if j = pick (after d r) then ⊤ else after d r j) = _
    by_cases hj : j = pick (after d r)
    · rw [if_pos hj, if_pos ⟨r, Nat.lt_succ_self r, hj.symm⟩]
    · rw [if_neg hj, ih]
      have : (∃ i < r, picked d i = j) ↔ ∃ i < r + 1, picked d i = j := by
        constructor
        · rintro ⟨i, hi, e⟩; exact ⟨i, Nat.lt_succ_of_lt hi, e⟩
        · rintro ⟨i, hi, e⟩
          rcases Nat.lt_succ_iff_lt_or_eq.mp hi with h | h
          · exact ⟨i, h, e⟩
          · subst h; exact absurd e.symm hj
      simp only [this]

/-- A round before the `n`-th takes an entry not taken before, when no entry is +∞. -/
theorem picked_new (d : Fin n → EReal) (hd : ∀ j, d j ≠ ⊤) (r : Nat) (hr : r < n) (i : Nat) (hi : i < r) :
    picked d i ≠ picked d r := by
  classical
  intro e
  have htop : after d r (picked d r) = ⊤ := by rw [after_apply, if_pos ⟨i, hi, e⟩]
  have hall : ∀ j, ∃ i < r, picked d i = j := fun j => by
    by_contra hno
    have := pick_le (after d r) j
    rw [show pick (after d r) = picked d r from rfl, htop, after_apply, if_neg hno] at this
    exact hd j (top_le_iff.mp this)
  have hsurj : Function.Surjective (fun i : Fin r => picked d i) := fun j => by
    obtain ⟨i, hi, e⟩ := hall j; exact ⟨⟨i, hi⟩, e⟩
  have := Fintype.card_le_of_surjective _ hsurj
  simp only [Fintype.card_fin] at this
  omega

/-- What round `r` takes is at most every entry not taken before it, and comes first among equals. -/
theorem picked_le (d : Fin n → EReal) (hd : ∀ j, d j ≠ ⊤) (r : Nat) (hr : r < n) (p : Fin n) (hp : ∀ i < r, picked d i ≠ p) :
    d (picked d r) ≤ d p ∧ (d p ≤ d (picked d r) → picked d r ≤ p) := by
  classical
  have h1 : after d r (picked d r) = d (picked d r) := by
    rw [after_apply, if_neg]; rintro ⟨i, hi, e⟩; exact picked_new d hd r hr i hi e
  have h2 : after d r p = d p := by rw [after_apply, if_neg]; rintro ⟨i, hi, e⟩; exact hp i hi e
  constructor
  · rw [← h1, ← h2]; exact pick_le _ _
  · intro h; rw [← h1, ← h2] at h; exact pick_first _ _ h

/-- THE ROUNDS ARE THE SORT: of a row with no +∞, the position that round `r` takes is the one a stable ascending sort
    puts at `r`. -/
theorem sortedFrom_eq_picked {k : Nat} (hk : k ≤ n) (d : Fin n → EReal) (hd : ∀ j, d j ≠ ⊤) (R : Fin n → Fin n → Bool)
    (hR : ∀ a b, R a b = decide (d a < d b)) (r : Fin k) : sortedFrom R (r.castLE hk) = picked d r := by
  classical
  have hB := StrictTotalBefore.of_key_then_position (fun a b : EReal => decide (a < b)) d (by simp)
    (fun a b c h h' => by simp only [decide_eq_true_eq] at *; exact h.trans h')
    (fun a b => by simp only [decide_eq_true_eq]; exact lt_trichotomy a b)
  have hcmp : ∀ (i : Nat) (p : Fin n), i < n → (∀ j < i, picked d j ≠ p) →
      (decide (d p < d (picked d i)) || (decide (d p = d (picked d i)) && decide (p < picked d i))) = false := by
    intro i p hi hp
    obtain ⟨h1, h2⟩ := picked_le d hd i hi p hp
    simp only [Bool.or_eq_false_iff, Bool.and_eq_false_iff, decide_eq_false_iff_not, not_lt]
    refine ⟨h1, ?_⟩
    by_cases e : d p = d (picked d i)
    · exact Or.inr (h2 e.le)
    · exact Or.inl e
  have hinj : Function.Injective (fun r : Fin k => picked d r) := fun i j e => by
    rcases lt_trichotomy i j with h | h | h
    · exact absurd e (picked_new d hd j (j.isLt.trans_le hk) i h)
    · exact h
    · exact absurd e.symm (picked_new d hd i (i.isLt.trans_le hk) j h)
  rw [sortedFrom_congr_lt R (fun a b => decide (d a < d b) || (decide (d a = d b) && decide (a < b)))
    (fun a b hab => by rw [hR]; simp [not_lt.mpr hab.le])]
  exact hB.sortedFrom_eq_of_prefix hk (fun r : Fin k => picked d r) hinj
    (fun i j hij => hcmp i _ (i.isLt.trans_le hk) fun m hm => picked_new d hd j (j.isLt.trans_le hk) m (hm.trans hij))
    (fun i p hp => hcmp i p (i.isLt.trans_le hk) fun m hm => hp ⟨m, hm.trans i.isLt⟩) r

end Cert.Neighbors

end
-- ==== Proof.Spec.lean ====
/-
  The layer as plain functions of extended reals, one point at a time: what the reference's array program says about a
  point, its sixteen neighbours and the weights. Nothing here mentions an array.
-/
module

public import proofs.«01_k».proof.Proof.Rounds

@[expose] public section

noncomputable section

namespace Cert.Spec

open Idealize.ShloMosaic

/-- Two dense layers with a rectifier between them; a weight is read at (output, input). -/
def mlp (W1 : Fin 256 → Fin 256 → EReal) (b1 : Fin 256 → EReal) (W2 : Fin 256 → Fin 256 → EReal) (b2 : Fin 256 → EReal)
    (x : Fin 256 → EReal) (o : Fin 256) : EReal :=
  ∑ k, max (∑ i, x i * W1 k i + b1 k) 0 * W2 o k + b2 o

/-- The squared distance of two points, as the sum of their squared lengths less twice their product, never negative. -/
def dist (P : Fin 2048 → Fin 3 → EReal) (n j : Fin 2048) : EReal :=
  max ((∑ c, P n c * P n c + ∑ c, P j c * P j c) - Ideal.ofBits .f32 0x40000000#32 * ∑ c, P n c * P j c) 0

/-- The neighbours of a point: the sixteen nearest points, nearest first, the lower index first where two are equally near. -/
def near (P : Fin 2048 → Fin 3 → EReal) (n : Fin 2048) (k : Fin 16) : Fin 2048 := Neighbors.picked (dist P n) k

/-- A vector over its length, the length kept away from zero. -/
def unit (v : Fin 3 → EReal) (c : Fin 3) : EReal :=
  Ideal.div (v c) (max (Ideal.sqrt (∑ x, v x * v x)) (Ideal.ofBits .f32 0x2B8CBCCC#32))

/-- The distance of two points, a little above the true one. -/
def radial (p p' : Fin 3 → EReal) : EReal :=
  Ideal.sqrt (∑ c, (p c - p' c) * (p c - p' c) + Ideal.ofBits .f32 0x1E3CE508#32)

/-- The cosine of the angle between a displacement and a normal, kept strictly inside (-1, 1). -/
def ratio (p p' v : Fin 3 → EReal) : EReal :=
  min (max (Ideal.div (∑ c, (p c - p' c) * unit v c) (radial p p' + Ideal.ofBits .f32 841731191#32))
    (Ideal.ofBits .f32 3212836847#32)) (Ideal.ofBits .f32 1065353199#32)

/-- The polynomial of the inverse cosine, a sum of powers. -/
def powers (a : EReal) : EReal :=
  Ideal.ofBits .f32 1070141402#32 + Ideal.ofBits .f32 3193683914#32 * a + Ideal.ofBits .f32 1035352734#32 * (a * a)
    + Ideal.ofBits .f32 3175973778#32 * (a * a * a) + Ideal.ofBits .f32 1023217912#32 * (a * a * a * a)
    + Ideal.ofBits .f32 3163290726#32 * (a * a * a * a * a) + Ideal.ofBits .f32 1004179653#32 * (a * a * a * a * a * a)
    + Ideal.ofBits .f32 3131406892#32 * (a * a * a * a * a * a * a)

/-- The magnitude of a number. -/
def mag (c : EReal) : EReal := FloatOps.absf (F := Ideal) (φ := .f32) c

/-- The inverse cosine by its polynomial, mirrored for a negative argument. -/
def arccos (c : EReal) : EReal :=
  if c < 0 then Ideal.ofBits .f32 1078530011#32 - Ideal.sqrt (1 - mag c) * powers (mag c)
  else Ideal.sqrt (1 - mag c) * powers (mag c)

/-- The hidden layer of the position code: a rectified affine map of a distance and an angle. -/
def hidden (W : Fin 256 → Fin 2 → EReal) (b : Fin 256 → EReal) (r t : EReal) (o : Fin 256) : EReal :=
  max (r * W o 0 + t * W o 1 + b o) 0

/-- One dense layer. -/
def dense (W : Fin 256 → Fin 256 → EReal) (b : Fin 256 → EReal) (x : Fin 256 → EReal) (o : Fin 256) : EReal :=
  ∑ k, x k * W o k + b o

/-- The score of a neighbour: the query against its key and position code, over sixteen. -/
def score (q : Fin 256 → EReal) (key pe : Fin 16 → Fin 256 → EReal) (j : Fin 16) : EReal :=
  Ideal.div (∑ x, q x * (key j x + pe j x)) (Ideal.ofBits .f32 0x41800000#32)

/-- The largest score. -/
def top (s : Fin 16 → EReal) : EReal := Finset.fold max (Ideal.ofBits .f32 0xFF800000#32) s Finset.univ

/-- The softmax of the scores. -/
def weight (s : Fin 16 → EReal) (j : Fin 16) : EReal :=
  Ideal.div (Ideal.exp (s j - max (Ideal.ofBits .f32 0xFF800000#32) (top s)))
    (∑ i, Ideal.exp (s i - max (Ideal.ofBits .f32 0xFF800000#32) (top s)))

/-- The weighted values, averaged over sixteen equal rows. -/
def attend (s : Fin 16 → EReal) (val pe : Fin 16 → Fin 256 → EReal) (o : Fin 256) : EReal :=
  Ideal.div (∑ _x : Fin 16, ∑ j, weight s j * (val j o + pe j o)) (Ideal.ofBits .f32 0x41800000#32)

/-- The mean of a row. -/
def mean (y : Fin 256 → EReal) : EReal := Ideal.div (∑ x, y x) (Ideal.ofBits .f32 0x43800000#32)

/-- A row less its mean over its deviation, scaled and shifted. -/
def norm (y g b : Fin 256 → EReal) (o : Fin 256) : EReal :=
  Ideal.div (y o - mean y)
    (Ideal.sqrt (Ideal.div (∑ x, (y x - mean y) * (y x - mean y)) (Ideal.ofBits .f32 0x43800000#32) + Ideal.ofBits .f32 897988541#32))
    * g o + b o

/-- A point's row before the normalisation: its attended values through two dense layers, and its query added. -/
def row (W1 : Fin 256 → Fin 256 → EReal) (b1 : Fin 256 → EReal) (W2 : Fin 256 → Fin 256 → EReal) (b2 : Fin 256 → EReal)
    (q : Fin 256 → EReal) (key val pe : Fin 16 → Fin 256 → EReal) (o : Fin 256) : EReal :=
  mlp W1 b1 W2 b2 (attend (score q key pe) val pe) o + q o

/-- The hidden layer of the position code of a point and another, from their positions and the point's normal. -/
def inner (W : Fin 256 → Fin 2 → EReal) (b : Fin 256 → EReal) (p p' v : Fin 3 → EReal) (o : Fin 256) : EReal :=
  hidden W b (radial p p') (arccos (ratio p p' v)) o

end Cert.Spec
-- ==== Proof.Fused.lean ====
/-
  The kernel's own form of the layer, one point at a time: the position code is never formed; its hidden layer is
  weighted first and goes through the second dense layer once. Nothing here mentions an array.
-/
module

public import proofs.«01_k».proof.Proof.Spec

@[expose] public section

noncomputable section

namespace Cert.Fused

open Idealize.ShloMosaic

/-- The polynomial of the inverse cosine, nested. -/
def horner (a : EReal) : EReal :=
  ((((((Ideal.ofBits .f32 0xBAA57A2C#32 * a + Ideal.ofBits .f32 0x3BDA90C5#32) * a + Ideal.ofBits .f32 0xBC8BFC66#32) * a
    + Ideal.ofBits .f32 0x3CFD10F8#32) * a + Ideal.ofBits .f32 0xBD4D8392#32) * a + Ideal.ofBits .f32 0x3DB63A9E#32) * a
    + Ideal.ofBits .f32 0xBE5BBFCA#32) * a + Ideal.ofBits .f32 0x3FC90FDA#32

/-- The inverse cosine by the nested polynomial, the root's argument kept from going negative. -/
def arccos (c : EReal) : EReal :=
  if c < 0 then Ideal.ofBits .f32 0x40490FDB#32 - Ideal.sqrt (max (1 - Spec.mag c) 0) * horner (Spec.mag c)
  else Ideal.sqrt (max (1 - Spec.mag c) 0) * horner (Spec.mag c)

/-- The cosine of the angle between a displacement and a normal, kept strictly inside (-1, 1). -/
def ratio (p p' v : Fin 3 → EReal) : EReal :=
  min (Ideal.ofBits .f32 0x3F7FFFEF#32) (max (Ideal.ofBits .f32 0xBF7FFFEF#32)
    (Ideal.div (∑ c, (p c - p' c) * Spec.unit v c) (Spec.radial p p' + Ideal.ofBits .f32 0x322BCC77#32)))

/-- The hidden layer of the position code, from two points' positions and the first one's normal. -/
def inner (W : Fin 256 → Fin 2 → EReal) (b : Fin 256 → EReal) (p p' v : Fin 3 → EReal) (o : Fin 256) : EReal :=
  Spec.hidden W b (Spec.radial p p') (arccos (ratio p p' v)) o

/-- The score of a neighbour: the query against its key, and the projected query against its hidden layer, over sixteen. -/
def score (q qp : Fin 256 → EReal) (key hid : Fin 16 → Fin 256 → EReal) (j : Fin 16) : EReal :=
  (∑ x, q x * key j x + ∑ x, qp x * hid j x) * Ideal.ofBits .f32 0x3D800000#32

/-- The softmax of the scores. -/
def weight (s : Fin 16 → EReal) (j : Fin 16) : EReal :=
  Ideal.div (Ideal.exp (s j - Spec.top s)) (∑ i, Ideal.exp (s i - Spec.top s))

/-- The weighted values, and the weighted hidden layers through the position code's second dense layer. -/
def attend (W : Fin 256 → Fin 256 → EReal) (b : Fin 256 → EReal) (s : Fin 16 → EReal) (val hid : Fin 16 → Fin 256 → EReal)
    (o : Fin 256) : EReal :=
  ∑ j, weight s j * val j o + ∑ k, (∑ j, weight s j * hid j k) * W o k + b o

/-- A point's row before the normalisation. -/
def row (Wp : Fin 256 → Fin 256 → EReal) (bp : Fin 256 → EReal) (W1 : Fin 256 → Fin 256 → EReal) (b1 : Fin 256 → EReal)
    (W2 : Fin 256 → Fin 256 → EReal) (b2 : Fin 256 → EReal) (q qp : Fin 256 → EReal) (key val hid : Fin 16 → Fin 256 → EReal)
    (o : Fin 256) : EReal :=
  Spec.mlp W1 b1 W2 b2 (attend Wp bp (score q qp key hid) val hid) o + q o

end Cert.Fused
-- ==== Proof.K0Read.lean ====
/-
  The first region's block: queries, keys, values and projected queries of 512 points.
-/
module

public import proofs.«01_k».proof.Proof.Gen.KernelIdeal.Frame
public import proofs.«01_k».proof.Proof.Fused
public import Idealize.ShloMosaic.Lib.Pointwise

@[expose] public section

noncomputable section

namespace Cert.KernelIdeal

open Idealize.ShloMosaic Cert.KernelIdeal.Gen

/-- The queries of a block. -/
theorem k0_pay4_at (x : Vec Ideal S512x256 .f32) (w1 : Vec Ideal S256x256 .f32) (b1 : Vec Ideal S256 .f32)
    (w2 : Vec Ideal S256x256 .f32) (b2 : Vec Ideal S256 .f32) (r : Fin 512) (o : Fin 256) :
    k0_pay4 x w1 b1 w2 b2 (ix2 r o) = Spec.mlp (fun o i => w1 (ix2 i o)) (fun o => b1 (ix1 o)) (fun o i => w2 (ix2 i o))
      (fun o => b2 (ix1 o)) (fun i => x (ix2 r i)) o := by
  pointwise [k0_pay4, k0_pay3]
  rfl

/-- The keys of a block. -/
theorem k0_pay5_at (x : Vec Ideal S512x256 .f32) (w1 : Vec Ideal S256x256 .f32) (b1 : Vec Ideal S256 .f32)
    (w2 : Vec Ideal S256x256 .f32) (b2 : Vec Ideal S256 .f32) (r : Fin 512) (o : Fin 256) :
    k0_pay5 x w1 b1 w2 b2 (ix2 r o) = Spec.mlp (fun o i => w1 (ix2 i o)) (fun o => b1 (ix1 o)) (fun o i => w2 (ix2 i o))
      (fun o => b2 (ix1 o)) (fun i => x (ix2 r i)) o := by
  pointwise [k0_pay5, k0_pay3]
  rfl

/-- The values of a block. -/
theorem k0_pay1_at (x : Vec Ideal S512x256 .f32) (w1 : Vec Ideal S256x256 .f32) (b1 : Vec Ideal S256 .f32)
    (w2 : Vec Ideal S256x256 .f32) (b2 : Vec Ideal S256 .f32) (r : Fin 512) (o : Fin 256) :
    k0_pay1 (k0_pay3 x) w1 b1 w2 b2 (ix2 r o) = Spec.mlp (fun o i => w1 (ix2 i o)) (fun o => b1 (ix1 o)) (fun o i => w2 (ix2 i o))
      (fun o => b2 (ix1 o)) (fun i => x (ix2 r i)) o := by
  pointwise [k0_pay1, k0_pay3]
  rfl

/-- The projected queries of a block. -/
theorem k0_pay2_at (q : Vec Ideal S512x256 .f32) (w : Vec Ideal S256x256 .f32) (r : Fin 512) (o : Fin 256) :
    k0_pay2 q w (ix2 r o) = ∑ k : Fin 256, q (ix2 r k) * w (ix2 k o) := by
  pointwise [k0_pay2]

/-- The second region's distances: the block's points against every point. -/
theorem k1_pay2_at (x : Vec Ideal S1x256x8 .f32) (y : Vec Ideal S1x3x2048 .f32) (r : Fin 256) (j : Fin 2048) :
    k1_pay2 x y (ix2 r j)
      = max ((∑ c : Fin 3, x (ix3 (0 : Fin 1) r ⟨c.1, by omega⟩) * x (ix3 (0 : Fin 1) r ⟨c.1, by omega⟩) + ∑ c : Fin 3, y (ix3 (0 : Fin 1) c j) * y (ix3 (0 : Fin 1) c j))
        - Ideal.ofBits .f32 0x40000000#32 * ∑ c : Fin 3, x (ix3 (0 : Fin 1) r ⟨c.1, by omega⟩) * y (ix3 (0 : Fin 1) c j)) 0 := by
  pointwise [k1_pay2]

end Cert.KernelIdeal
-- ==== Proof.K0Arr.lean ====
/-
  The first region's arrays: what the blocks of its inputs are, and what its four outputs end holding.
-/
module

public import proofs.«01_k».proof.Proof.K0Read
public import Idealize.ShloMosaic.Lib.Pipeline.Value

@[expose] public section

noncomputable section

namespace Cert.KernelIdeal

open Idealize.ShloMosaic Idealize.ShloMosaic.TcCoe Cert.KernelIdeal.Gen

variable (V : (c : Dev nD) → (b : Ref sig .tc) → Buf (Elt Ideal) ((c : Thread nD τ).loc b))

/-- The row of the array that is row `r` of block `t`. -/
def row0 (t : Fin cfg0.N) (r : Fin 512) : Fin 8192 :=
  ⟨t.val * 512 + r.val, by have h := t.isLt; have e : cfg0.N = 16 := N_0; have := r.isLt; omega⟩

/-- Where a step's block of window 0 of call 0 lies, in blocks. -/
theorem index0_0 : ∀ t : Fin cfg0.N, win0_0.index t (0 : Fin 2) = t.val ∧ win0_0.index t (1 : Fin 2) = 0 :=
  (by decide +kernel : ∀ t : Fin grid0.N, _)

/-- Where an entry of a step's block of window 0 of call 0 lies in its array. -/
theorem emb0_0 (t : Fin cfg0.N) (r : Fin 512) (i : Fin 256) : ((cfg0.win 0).blk t).view.emb (ix2 r i) = ix2 (row0 t r) i := by
  obtain ⟨e0, e1⟩ := index0_0 t
  funext a; apply Fin.ext
  match a with
  | ⟨0, _⟩ => show win0_0.index t (0 : Fin 2) * 512 + 1 * r.val = t.val * 512 + r.val; omega
  | ⟨1, _⟩ => show win0_0.index t (1 : Fin 2) * 256 + 1 * i.val = i.val; omega

/-- Where a step's block of window 14 of call 0 lies, in blocks. -/
theorem index0_14 : ∀ t : Fin cfg0.N, win0_14.index t (0 : Fin 2) = t.val ∧ win0_14.index t (1 : Fin 2) = 0 :=
  (by decide +kernel : ∀ t : Fin grid0.N, _)

/-- Where an entry of a step's block of window 14 of call 0 lies in its array. -/
theorem emb0_14 (t : Fin cfg0.N) (r : Fin 512) (i : Fin 256) : ((cfg0.win 14).blk t).view.emb (ix2 r i) = ix2 (row0 t r) i := by
  obtain ⟨e0, e1⟩ := index0_14 t
  funext a; apply Fin.ext
  match a with
  | ⟨0, _⟩ => show win0_14.index t (0 : Fin 2) * 512 + 1 * r.val = t.val * 512 + r.val; omega
  | ⟨1, _⟩ => show win0_14.index t (1 : Fin 2) * 256 + 1 * i.val = i.val; omega

/-- Where a step's block of window 15 of call 0 lies, in blocks. -/
theorem index0_15 : ∀ t : Fin cfg0.N, win0_15.index t (0 : Fin 2) = t.val ∧ win0_15.index t (1 : Fin 2) = 0 :=
  (by decide +kernel : ∀ t : Fin grid0.N, _)

/-- Where an entry of a step's block of window 15 of call 0 lies in its array. -/
theorem emb0_15 (t : Fin cfg0.N) (r : Fin 512) (i : Fin 256) : ((cfg0.win 15).blk t).view.emb (ix2 r i) = ix2 (row0 t r) i := by
  obtain ⟨e0, e1⟩ := index0_15 t
  funext a; apply Fin.ext
  match a with
  | ⟨0, _⟩ => show win0_15.index t (0 : Fin 2) * 512 + 1 * r.val = t.val * 512 + r.val; omega
  | ⟨1, _⟩ => show win0_15.index t (1 : Fin 2) * 256 + 1 * i.val = i.val; omega

/-- Where a step's block of window 16 of call 0 lies, in blocks. -/
theorem index0_16 : ∀ t : Fin cfg0.N, win0_16.index t (0 : Fin 2) = t.val ∧ win0_16.index t (1 : Fin 2) = 0 :=
  (by decide +kernel : ∀ t : Fin grid0.N, _)

/-- Where an entry of a step's block of window 16 of call 0 lies in its array. -/
theorem emb0_16 (t : Fin cfg0.N) (r : Fin 512) (i : Fin 256) : ((cfg0.win 16).blk t).view.emb (ix2 r i) = ix2 (row0 t r) i := by
  obtain ⟨e0, e1⟩ := index0_16 t
  funext a; apply Fin.ext
  match a with
  | ⟨0, _⟩ => show win0_16.index t (0 : Fin 2) * 512 + 1 * r.val = t.val * 512 + r.val; omega
  | ⟨1, _⟩ => show win0_16.index t (1 : Fin 2) * 256 + 1 * i.val = i.val; omega

/-- Where a step's block of window 17 of call 0 lies, in blocks. -/
theorem index0_17 : ∀ t : Fin cfg0.N, win0_17.index t (0 : Fin 2) = t.val ∧ win0_17.index t (1 : Fin 2) = 0 :=
  (by decide +kernel : ∀ t : Fin grid0.N, _)

/-- Where an entry of a step's block of window 17 of call 0 lies in its array. -/
theorem emb0_17 (t : Fin cfg0.N) (r : Fin 512) (i : Fin 256) : ((cfg0.win 17).blk t).view.emb (ix2 r i) = ix2 (row0 t r) i := by
  obtain ⟨e0, e1⟩ := index0_17 t
  funext a; apply Fin.ext
  match a with
  | ⟨0, _⟩ => show win0_17.index t (0 : Fin 2) * 512 + 1 * r.val = t.val * 512 + r.val; omega
  | ⟨1, _⟩ => show win0_17.index t (1 : Fin 2) * 256 + 1 * i.val = i.val; omega

/-- A step's block of window 0 of call 0, entry by entry. -/
theorem iblk0_0_at (c : Dev nD) (t : Fin cfg0.N) (r : Fin 512) (i : Fin 256) :
    (iblk0 V c 0 t : Vec Ideal S512x256 .f32) (ix2 r i) = (V c main_v0 : Vec Ideal S8192x256 .f32) (ix2 (row0 t r) i) := by
  show V c main_v0 (((cfg0.win 0).blk t).view.emb (ix2 r i)) = _
  rw [emb0_0]

/-- Where a step's block of window 1 of call 0 lies, in blocks. -/
theorem index0_1 : ∀ t : Fin cfg0.N, win0_1.index t (0 : Fin 2) = 0 ∧ win0_1.index t (1 : Fin 2) = 0 :=
  (by decide +kernel : ∀ t : Fin grid0.N, _)

/-- A step's block of window 1 of call 0 is the whole array. -/
theorem iblk0_1_eq (c : Dev nD) (t : Fin cfg0.N) : (iblk0 V c 1 t : Vec Ideal S256x256 .f32) = (V c main_v1 : Vec Ideal S256x256 .f32) := by
  obtain ⟨e0, e1⟩ := index0_1 t
  funext z
  show V c main_v1 (((cfg0.win 1).blk t).view.emb z) = _
  refine congrArg _ (funext fun a => Fin.ext ?_)
  match a with
  | ⟨0, _⟩ => show win0_1.index t (0 : Fin 2) * 256 + 1 * (z 0).val = (z 0).val; omega
  | ⟨1, _⟩ => show win0_1.index t (1 : Fin 2) * 256 + 1 * (z 1).val = (z 1).val; omega

/-- Where a step's block of window 2 of call 0 lies, in blocks. -/
theorem index0_2 : ∀ t : Fin cfg0.N, win0_2.index t (0 : Fin 1) = 0 :=
  (by decide +kernel : ∀ t : Fin grid0.N, _)

/-- A step's block of window 2 of call 0 is the whole array. -/
theorem iblk0_2_eq (c : Dev nD) (t : Fin cfg0.N) : (iblk0 V c 2 t : Vec Ideal S256 .f32) = (V c main_arg5 : Vec Ideal S256 .f32) := by
  have e0 := index0_2 t
  funext z
  show V c main_arg5 (((cfg0.win 2).blk t).view.emb z) = _
  refine congrArg _ (funext fun a => Fin.ext ?_)
  match a with
  | ⟨0, _⟩ => show win0_2.index t (0 : Fin 1) * 256 + 1 * (z 0).val = (z 0).val; omega

/-- Where a step's block of window 3 of call 0 lies, in blocks. -/
theorem index0_3 : ∀ t : Fin cfg0.N, win0_3.index t (0 : Fin 2) = 0 ∧ win0_3.index t (1 : Fin 2) = 0 :=
  (by decide +kernel : ∀ t : Fin grid0.N, _)

/-- A step's block of window 3 of call 0 is the whole array. -/
theorem iblk0_3_eq (c : Dev nD) (t : Fin cfg0.N) : (iblk0 V c 3 t : Vec Ideal S256x256 .f32) = (V c main_v2 : Vec Ideal S256x256 .f32) := by
  obtain ⟨e0, e1⟩ := index0_3 t
  funext z
  show V c main_v2 (((cfg0.win 3).blk t).view.emb z) = _
  refine congrArg _ (funext fun a => Fin.ext ?_)
  match a with
  | ⟨0, _⟩ => show win0_3.index t (0 : Fin 2) * 256 + 1 * (z 0).val = (z 0).val; omega
  | ⟨1, _⟩ => show win0_3.index t (1 : Fin 2) * 256 + 1 * (z 1).val = (z 1).val; omega

/-- Where a step's block of window 4 of call 0 lies, in blocks. -/
theorem index0_4 : ∀ t : Fin cfg0.N, win0_4.index t (0 : Fin 1) = 0 :=
  (by decide +kernel : ∀ t : Fin grid0.N, _)

/-- A step's block of window 4 of call 0 is the whole array. -/
theorem iblk0_4_eq (c : Dev nD) (t : Fin cfg0.N) : (iblk0 V c 4 t : Vec Ideal S256 .f32) = (V c main_arg7 : Vec Ideal S256 .f32) := by
  have e0 := index0_4 t
  funext z
  show V c main_arg7 (((cfg0.win 4).blk t).view.emb z) = _
  refine congrArg _ (funext fun a => Fin.ext ?_)
  match a with
  | ⟨0, _⟩ => show win0_4.index t (0 : Fin 1) * 256 + 1 * (z 0).val = (z 0).val; omega

/-- Where a step's block of window 5 of call 0 lies, in blocks. -/
theorem index0_5 : ∀ t : Fin cfg0.N, win0_5.index t (0 : Fin 2) = 0 ∧ win0_5.index t (1 : Fin 2) = 0 :=
  (by decide +kernel : ∀ t : Fin grid0.N, _)

/-- A step's block of window 5 of call 0 is the whole array. -/
theorem iblk0_5_eq (c : Dev nD) (t : Fin cfg0.N) : (iblk0 V c 5 t : Vec Ideal S256x256 .f32) = (V c main_v3 : Vec Ideal S256x256 .f32) := by
  obtain ⟨e0, e1⟩ := index0_5 t
  funext z
  show V c main_v3 (((cfg0.win 5).blk t).view.emb z) = _
  refine congrArg _ (funext fun a => Fin.ext ?_)
  match a with
  | ⟨0, _⟩ => show win0_5.index t (0 : Fin 2) * 256 + 1 * (z 0).val = (z 0).val; omega
  | ⟨1, _⟩ => show win0_5.index t (1 : Fin 2) * 256 + 1 * (z 1).val = (z 1).val; omega

/-- Where a step's block of window 6 of call 0 lies, in blocks. -/
theorem index0_6 : ∀ t : Fin cfg0.N, win0_6.index t (0 : Fin 1) = 0 :=
  (by decide +kernel : ∀ t : Fin grid0.N, _)

/-- A step's block of window 6 of call 0 is the whole array. -/
theorem iblk0_6_eq (c : Dev nD) (t : Fin cfg0.N) : (iblk0 V c 6 t : Vec Ideal S256 .f32) = (V c main_arg9 : Vec Ideal S256 .f32) := by
  have e0 := index0_6 t
  funext z
  show V c main_arg9 (((cfg0.win 6).blk t).view.emb z) = _
  refine congrArg _ (funext fun a => Fin.ext ?_)
  match a with
  | ⟨0, _⟩ => show win0_6.index t (0 : Fin 1) * 256 + 1 * (z 0).val = (z 0).val; omega

/-- Where a step's block of window 7 of call 0 lies, in blocks. -/
theorem index0_7 : ∀ t : Fin cfg0.N, win0_7.index t (0 : Fin 2) = 0 ∧ win0_7.index t (1 : Fin 2) = 0 :=
  (by decide +kernel : ∀ t : Fin grid0.N, _)

/-- A step's block of window 7 of call 0 is the whole array. -/
theorem iblk0_7_eq (c : Dev nD) (t : Fin cfg0.N) : (iblk0 V c 7 t : Vec Ideal S256x256 .f32) = (V c main_v4 : Vec Ideal S256x256 .f32) := by
  obtain ⟨e0, e1⟩ := index0_7 t
  funext z
  show V c main_v4 (((cfg0.win 7).blk t).view.emb z) = _
  refine congrArg _ (funext fun a => Fin.ext ?_)
  match a with
  | ⟨0, _⟩ => show win0_7.index t (0 : Fin 2) * 256 + 1 * (z 0).val = (z 0).val; omega
  | ⟨1, _⟩ => show win0_7.index t (1 : Fin 2) * 256 + 1 * (z 1).val = (z 1).val; omega

/-- Where a step's block of window 8 of call 0 lies, in blocks. -/
theorem index0_8 : ∀ t : Fin cfg0.N, win0_8.index t (0 : Fin 1) = 0 :=
  (by decide +kernel : ∀ t : Fin grid0.N, _)

/-- A step's block of window 8 of call 0 is the whole array. -/
theorem iblk0_8_eq (c : Dev nD) (t : Fin cfg0.N) : (iblk0 V c 8 t : Vec Ideal S256 .f32) = (V c main_arg11 : Vec Ideal S256 .f32) := by
  have e0 := index0_8 t
  funext z
  show V c main_arg11 (((cfg0.win 8).blk t).view.emb z) = _
  refine congrArg _ (funext fun a => Fin.ext ?_)
  match a with
  | ⟨0, _⟩ => show win0_8.index t (0 : Fin 1) * 256 + 1 * (z 0).val = (z 0).val; omega

/-- Where a step's block of window 9 of call 0 lies, in blocks. -/
theorem index0_9 : ∀ t : Fin cfg0.N, win0_9.index t (0 : Fin 2) = 0 ∧ win0_9.index t (1 : Fin 2) = 0 :=
  (by decide +kernel : ∀ t : Fin grid0.N, _)

/-- A step's block of window 9 of call 0 is the whole array. -/
theorem iblk0_9_eq (c : Dev nD) (t : Fin cfg0.N) : (iblk0 V c 9 t : Vec Ideal S256x256 .f32) = (V c main_v5 : Vec Ideal S256x256 .f32) := by
  obtain ⟨e0, e1⟩ := index0_9 t
  funext z
  show V c main_v5 (((cfg0.win 9).blk t).view.emb z) = _
  refine congrArg _ (funext fun a => Fin.ext ?_)
  match a with
  | ⟨0, _⟩ => show win0_9.index t (0 : Fin 2) * 256 + 1 * (z 0).val = (z 0).val; omega
  | ⟨1, _⟩ => show win0_9.index t (1 : Fin 2) * 256 + 1 * (z 1).val = (z 1).val; omega

/-- Where a step's block of window 10 of call 0 lies, in blocks. -/
theorem index0_10 : ∀ t : Fin cfg0.N, win0_10.index t (0 : Fin 1) = 0 :=
  (by decide +kernel : ∀ t : Fin grid0.N, _)

/-- A step's block of window 10 of call 0 is the whole array. -/
theorem iblk0_10_eq (c : Dev nD) (t : Fin cfg0.N) : (iblk0 V c 10 t : Vec Ideal S256 .f32) = (V c main_arg13 : Vec Ideal S256 .f32) := by
  have e0 := index0_10 t
  funext z
  show V c main_arg13 (((cfg0.win 10).blk t).view.emb z) = _
  refine congrArg _ (funext fun a => Fin.ext ?_)
  match a with
  | ⟨0, _⟩ => show win0_10.index t (0 : Fin 1) * 256 + 1 * (z 0).val = (z 0).val; omega

/-- Where a step's block of window 11 of call 0 lies, in blocks. -/
theorem index0_11 : ∀ t : Fin cfg0.N, win0_11.index t (0 : Fin 2) = 0 ∧ win0_11.index t (1 : Fin 2) = 0 :=
  (by decide +kernel : ∀ t : Fin grid0.N, _)

/-- A step's block of window 11 of call 0 is the whole array. -/
theorem iblk0_11_eq (c : Dev nD) (t : Fin cfg0.N) : (iblk0 V c 11 t : Vec Ideal S256x256 .f32) = (V c main_v6 : Vec Ideal S256x256 .f32) := by
  obtain ⟨e0, e1⟩ := index0_11 t
  funext z
  show V c main_v6 (((cfg0.win 11).blk t).view.emb z) = _
  refine congrArg _ (funext fun a => Fin.ext ?_)
  match a with
  | ⟨0, _⟩ => show win0_11.index t (0 : Fin 2) * 256 + 1 * (z 0).val = (z 0).val; omega
  | ⟨1, _⟩ => show win0_11.index t (1 : Fin 2) * 256 + 1 * (z 1).val = (z 1).val; omega

/-- Where a step's block of window 12 of call 0 lies, in blocks. -/
theorem index0_12 : ∀ t : Fin cfg0.N, win0_12.index t (0 : Fin 1) = 0 :=
  (by decide +kernel : ∀ t : Fin grid0.N, _)

/-- A step's block of window 12 of call 0 is the whole array. -/
theorem iblk0_12_eq (c : Dev nD) (t : Fin cfg0.N) : (iblk0 V c 12 t : Vec Ideal S256 .f32) = (V c main_arg15 : Vec Ideal S256 .f32) := by
  have e0 := index0_12 t
  funext z
  show V c main_arg15 (((cfg0.win 12).blk t).view.emb z) = _
  refine congrArg _ (funext fun a => Fin.ext ?_)
  match a with
  | ⟨0, _⟩ => show win0_12.index t (0 : Fin 1) * 256 + 1 * (z 0).val = (z 0).val; omega

/-- Where a step's block of window 13 of call 0 lies, in blocks. -/
theorem index0_13 : ∀ t : Fin cfg0.N, win0_13.index t (0 : Fin 2) = 0 ∧ win0_13.index t (1 : Fin 2) = 0 :=
  (by decide +kernel : ∀ t : Fin grid0.N, _)

/-- A step's block of window 13 of call 0 is the whole array. -/
theorem iblk0_13_eq (c : Dev nD) (t : Fin cfg0.N) : (iblk0 V c 13 t : Vec Ideal S256x256 .f32) = (V c main_arg18 : Vec Ideal S256x256 .f32) := by
  obtain ⟨e0, e1⟩ := index0_13 t
  funext z
  show V c main_arg18 (((cfg0.win 13).blk t).view.emb z) = _
  refine congrArg _ (funext fun a => Fin.ext ?_)
  match a with
  | ⟨0, _⟩ => show win0_13.index t (0 : Fin 2) * 256 + 1 * (z 0).val = (z 0).val; omega
  | ⟨1, _⟩ => show win0_13.index t (1 : Fin 2) * 256 + 1 * (z 1).val = (z 1).val; omega

/-- The zero offset of a matrix. -/
theorem zero2 : (![0, 0] : Fin 2 → Nat) = fun _ => 0 := by funext k; fin_cases k <;> rfl
/-- The zero offset of a vector. -/
theorem zero1 : (![0] : Fin 1 → Nat) = fun _ => 0 := by funext k; fin_cases k; rfl
/-- A load of the whole of a block shaped like window 0 of call 0 is the block. -/
theorem ld0_0 (x : Vec Ideal S512x256 .f32) : View.ld x r0_0 = x := View.ld_unit_zero zero2 _ x
/-- A load of the whole of a block shaped like window 1 of call 0 is the block. -/
theorem ld0_1 (x : Vec Ideal S256x256 .f32) : View.ld x r0_1 = x := View.ld_unit_zero zero2 _ x
/-- A load of the whole of a block shaped like window 2 of call 0 is the block. -/
theorem ld0_2 (x : Vec Ideal S256 .f32) : View.ld x r0_2 = x := View.ld_unit_zero zero1 _ x

/-- The block a row of the array lies in. -/
def block0 (g : Fin 8192) : Fin cfg0.N :=
  ⟨g.val / 512, by have h := g.isLt; have e : cfg0.N = 16 := N_0; rw [e]; omega⟩
/-- Its row in that block. -/
def within0 (g : Fin 8192) : Fin 512 := ⟨g.val % 512, by omega⟩
/-- A flat row is a row of its block. -/
theorem row0_block0 (g : Fin 8192) : row0 (block0 g) (within0 g) = g :=
  Fin.ext (by show g.val / 512 * 512 + g.val % 512 = g.val; omega)

/-- A dense pair of layers over an array's rows. -/
def mlpArr (x : Vec Ideal S8192x256 .f32) (w1 : Vec Ideal S256x256 .f32) (b1 : Vec Ideal S256 .f32) (w2 : Vec Ideal S256x256 .f32)
    (b2 : Vec Ideal S256 .f32) (g : Fin 8192) (o : Fin 256) : EReal :=
  Spec.mlp (fun o i => w1 (ix2 i o)) (fun o => b1 (ix1 o)) (fun o i => w2 (ix2 i o)) (fun o => b2 (ix1 o)) (fun i => x (ix2 g i)) o

/-- A block of the queries. -/
theorem out0_14_at (c : Dev nD) (t : Fin cfg0.N) (r : Fin 512) (o : Fin 256) :
    (out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : Vec Ideal S512x256 .f32) (ix2 r o)
      = mlpArr (V c main_v0) (V c main_v1) (V c main_arg5) (V c main_v2) (V c main_arg7) (row0 t r) o := by
  unfold_out out0_14
  rw [View.canon_unit_zero zero2]
  rw [ld0_0, ld0_1, ld0_2, ld0_1, ld0_2]
  refine (k0_pay4_at _ _ _ _ _ r o).trans ?_
  rw [iblk0_1_eq, iblk0_2_eq, iblk0_3_eq, iblk0_4_eq]
  exact congrArg (fun x => Spec.mlp _ _ _ _ x o) (funext fun i => iblk0_0_at V c t r i)

/-- The array of the queries. -/
theorem final0_14 (c : Dev nD) : (dat0 V c).arrAt 14 cfg0.N = fun i : S8192x256.Idx => mlpArr (V c main_v0) (V c main_v1) (V c main_arg5) (V c main_v2) (V c main_arg7) (i 0) (i 1) := by
  refine (dat0 V c).arrAt_eq_of_cover 14 _ (fun t _ => ?_) fun i => ?_
  · show (cfg0.win 14).cut (grid0.coords t) ((dat0 V c).after 14 t) = _
    rw [after0_14]
    funext y
    obtain ⟨r, o, rfl⟩ : ∃ (r : Fin 512) (o : Fin 256), y = ix2 r o := ⟨y 0, y 1, ValueIdx.eq_ix2 (n0 := 512) (n1 := 256) y⟩
    refine (out0_14_at V c t r o).trans ?_
    refine Eq.trans ?_ (congrArg (fun i : S8192x256.Idx => mlpArr (V c main_v0) (V c main_v1) (V c main_arg5) (V c main_v2) (V c main_arg7) (i 0) (i 1)) (emb0_14 t r o)).symm
    rfl
  · obtain ⟨g, o, rfl⟩ : ∃ (g : Fin 8192) (o : Fin 256), i = ix2 g o := ⟨i 0, i 1, ValueIdx.eq_ix2 (n0 := 8192) (n1 := 256) i⟩
    refine ⟨block0 g, flush0_14 _, ?_⟩
    have h := ((cfg0.win 14).blk (block0 g)).view.emb_mem_set (ix2 (within0 g) o)
    rw [emb0_14] at h
    rwa [row0_block0] at h

/-- A block of the keys. -/
theorem out0_15_at (c : Dev nD) (t : Fin cfg0.N) (r : Fin 512) (o : Fin 256) :
    (out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : Vec Ideal S512x256 .f32) (ix2 r o)
      = mlpArr (V c main_v0) (V c main_v3) (V c main_arg9) (V c main_v4) (V c main_arg11) (row0 t r) o := by
  unfold_out out0_15
  rw [View.canon_unit_zero zero2]
  rw [ld0_0, ld0_1, ld0_2, ld0_1, ld0_2]
  refine (k0_pay5_at _ _ _ _ _ r o).trans ?_
  rw [iblk0_5_eq, iblk0_6_eq, iblk0_7_eq, iblk0_8_eq]
  exact congrArg (fun x => Spec.mlp _ _ _ _ x o) (funext fun i => iblk0_0_at V c t r i)

/-- The array of the keys. -/
theorem final0_15 (c : Dev nD) : (dat0 V c).arrAt 15 cfg0.N = fun i : S8192x256.Idx => mlpArr (V c main_v0) (V c main_v3) (V c main_arg9) (V c main_v4) (V c main_arg11) (i 0) (i 1) := by
  refine (dat0 V c).arrAt_eq_of_cover 15 _ (fun t _ => ?_) fun i => ?_
  · show (cfg0.win 15).cut (grid0.coords t) ((dat0 V c).after 15 t) = _
    rw [after0_15]
    funext y
    obtain ⟨r, o, rfl⟩ : ∃ (r : Fin 512) (o : Fin 256), y = ix2 r o := ⟨y 0, y 1, ValueIdx.eq_ix2 (n0 := 512) (n1 := 256) y⟩
    refine (out0_15_at V c t r o).trans ?_
    refine Eq.trans ?_ (congrArg (fun i : S8192x256.Idx => mlpArr (V c main_v0) (V c main_v3) (V c main_arg9) (V c main_v4) (V c main_arg11) (i 0) (i 1)) (emb0_15 t r o)).symm
    rfl
  · obtain ⟨g, o, rfl⟩ : ∃ (g : Fin 8192) (o : Fin 256), i = ix2 g o := ⟨i 0, i 1, ValueIdx.eq_ix2 (n0 := 8192) (n1 := 256) i⟩
    refine ⟨block0 g, flush0_15 _, ?_⟩
    have h := ((cfg0.win 15).blk (block0 g)).view.emb_mem_set (ix2 (within0 g) o)
    rw [emb0_15] at h
    rwa [row0_block0] at h

/-- A block of the values. -/
theorem out0_16_at (c : Dev nD) (t : Fin cfg0.N) (r : Fin 512) (o : Fin 256) :
    (out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : Vec Ideal S512x256 .f32) (ix2 r o)
      = mlpArr (V c main_v0) (V c main_v5) (V c main_arg13) (V c main_v6) (V c main_arg15) (row0 t r) o := by
  unfold_out out0_16
  rw [View.canon_unit_zero zero2]
  rw [ld0_0, ld0_1, ld0_2, ld0_1, ld0_2]
  refine (k0_pay1_at _ _ _ _ _ r o).trans ?_
  rw [iblk0_9_eq, iblk0_10_eq, iblk0_11_eq, iblk0_12_eq]
  exact congrArg (fun x => Spec.mlp _ _ _ _ x o) (funext fun i => iblk0_0_at V c t r i)

/-- The array of the values. -/
theorem final0_16 (c : Dev nD) : (dat0 V c).arrAt 16 cfg0.N = fun i : S8192x256.Idx => mlpArr (V c main_v0) (V c main_v5) (V c main_arg13) (V c main_v6) (V c main_arg15) (i 0) (i 1) := by
  refine (dat0 V c).arrAt_eq_of_cover 16 _ (fun t _ => ?_) fun i => ?_
  · show (cfg0.win 16).cut (grid0.coords t) ((dat0 V c).after 16 t) = _
    rw [after0_16]
    funext y
    obtain ⟨r, o, rfl⟩ : ∃ (r : Fin 512) (o : Fin 256), y = ix2 r o := ⟨y 0, y 1, ValueIdx.eq_ix2 (n0 := 512) (n1 := 256) y⟩
    refine (out0_16_at V c t r o).trans ?_
    refine Eq.trans ?_ (congrArg (fun i : S8192x256.Idx => mlpArr (V c main_v0) (V c main_v5) (V c main_arg13) (V c main_v6) (V c main_arg15) (i 0) (i 1)) (emb0_16 t r o)).symm
    rfl
  · obtain ⟨g, o, rfl⟩ : ∃ (g : Fin 8192) (o : Fin 256), i = ix2 g o := ⟨i 0, i 1, ValueIdx.eq_ix2 (n0 := 8192) (n1 := 256) i⟩
    refine ⟨block0 g, flush0_16 _, ?_⟩
    have h := ((cfg0.win 16).blk (block0 g)).view.emb_mem_set (ix2 (within0 g) o)
    rw [emb0_16] at h
    rwa [row0_block0] at h

/-- A block of the projected queries. -/
theorem out0_17_at (c : Dev nD) (t : Fin cfg0.N) (r : Fin 512) (o : Fin 256) :
    (out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) : Vec Ideal S512x256 .f32) (ix2 r o)
      = ∑ k : Fin 256, mlpArr (V c main_v0) (V c main_v1) (V c main_arg5) (V c main_v2) (V c main_arg7) (row0 t r) k * (V c main_arg18 : Vec Ideal S256x256 .f32) (ix2 k o) := by
  unfold_out out0_17
  rw [View.canon_unit_zero zero2]
  rw [ld0_0, ld0_1, ld0_2, ld0_1, ld0_2, ld0_1]
  refine (k0_pay2_at _ _ r o).trans (Finset.sum_congr rfl fun k _ => ?_)
  rw [iblk0_13_eq]
  refine congrArg (· * _) ?_
  refine (k0_pay4_at _ _ _ _ _ r k).trans ?_
  rw [iblk0_1_eq, iblk0_2_eq, iblk0_3_eq, iblk0_4_eq]
  exact congrArg (fun x => Spec.mlp _ _ _ _ x k) (funext fun i => iblk0_0_at V c t r i)

/-- The array of the projected queries. -/
theorem final0_17 (c : Dev nD) : (dat0 V c).arrAt 17 cfg0.N = fun i : S8192x256.Idx => ∑ k : Fin 256, mlpArr (V c main_v0) (V c main_v1) (V c main_arg5) (V c main_v2) (V c main_arg7) (i 0) k * (V c main_arg18 : Vec Ideal S256x256 .f32) (ix2 k (i 1)) := by
  refine (dat0 V c).arrAt_eq_of_cover 17 _ (fun t _ => ?_) fun i => ?_
  · show (cfg0.win 17).cut (grid0.coords t) ((dat0 V c).after 17 t) = _
    rw [after0_17]
    funext y
    obtain ⟨r, o, rfl⟩ : ∃ (r : Fin 512) (o : Fin 256), y = ix2 r o := ⟨y 0, y 1, ValueIdx.eq_ix2 (n0 := 512) (n1 := 256) y⟩
    refine (out0_17_at V c t r o).trans ?_
    refine Eq.trans ?_ (congrArg (fun i : S8192x256.Idx => ∑ k : Fin 256, mlpArr (V c main_v0) (V c main_v1) (V c main_arg5) (V c main_v2) (V c main_arg7) (i 0) k * (V c main_arg18 : Vec Ideal S256x256 .f32) (ix2 k (i 1))) (emb0_17 t r o)).symm
    rfl
  · obtain ⟨g, o, rfl⟩ : ∃ (g : Fin 8192) (o : Fin 256), i = ix2 g o := ⟨i 0, i 1, ValueIdx.eq_ix2 (n0 := 8192) (n1 := 256) i⟩
    refine ⟨block0 g, flush0_17 _, ?_⟩
    have h := ((cfg0.win 17).blk (block0 g)).view.emb_mem_set (ix2 (within0 g) o)
    rw [emb0_17] at h
    rwa [row0_block0] at h

end Cert.KernelIdeal
-- ==== Proof.Round1.lean ====
/-
  One round of the kernel's neighbour search, read at an index, and the block of sixteen rounds the kernel stores.
-/
module

public import proofs.«01_k».proof.Proof.Gen.KernelIdeal.Frame
public import proofs.«01_k».proof.Proof.Rounds
public import Idealize.ShloMosaic.Lib.Pointwise

@[expose] public section

noncomputable section

namespace Cert.Neighbors

open Idealize.ShloMosaic

/-- The pattern of +∞ is the greatest extended real. -/
theorem ofBits_posInf : Ideal.ofBits .f32 0x7F800000#32 = ⊤ := by simp [Ideal.ofBits, Ideal.ieee]

/-- The signed minimum of two small naturals' words is the word of their minimum. -/
theorem minsi_ofNat {a b : Nat} (ha : a < 2 ^ 31) (hb : b < 2 ^ 31) :
    IntOp.minsi (BitVec.ofNat 32 a) (BitVec.ofNat 32 b) = BitVec.ofNat 32 (min a b) := by
  have ea : (BitVec.ofNat 32 a).toInt = a := by
    rw [BitVec.toInt_eq_toNat_cond, BitVec.toNat_ofNat]; split <;> omega
  have eb : (BitVec.ofNat 32 b).toInt = b := by
    rw [BitVec.toInt_eq_toNat_cond, BitVec.toNat_ofNat]; split <;> omega
  unfold IntOp.minsi
  by_cases h : a < b
  · rw [if_pos (by rw [BitVec.slt_eq_decide, ea, eb]; simpa using h), min_eq_left h.le]
  · rw [if_neg (by rw [BitVec.slt_eq_decide, ea, eb]; simpa using h), min_eq_right (not_lt.mp h)]

/-- A fold of the signed minimum over small naturals' words is the word of their minimum. -/
theorem fold_minsi_ofNat {ι : Type} [DecidableEq ι] (s : Finset ι) (g : ι → Nat) (m : Nat) (hm : m < 2 ^ 31)
    (hg : ∀ i, g i < 2 ^ 31) :
    s.fold IntOp.minsi (BitVec.ofNat 32 m) (fun i => BitVec.ofNat 32 (g i)) = BitVec.ofNat 32 (s.fold min m g) := by
  induction s using Finset.induction_on with
  | empty => rfl
  | insert a s ha ih =>
    rw [Finset.fold_insert ha, Finset.fold_insert ha, ih]
    refine minsi_ofNat (hg a) (lt_of_le_of_lt ?_ hm)
    exact Finset.fold_min_le _ |>.mpr (Or.inl le_rfl)

/-- The least entry of a row is the one `pick` points at. -/
theorem fold_min_eq_pick {n : Nat} [NeZero n] (c : Fin n → EReal) : Finset.univ.fold min ⊤ c = c (pick c) := by
  apply le_antisymm
  · exact Finset.fold_min_le _ |>.mpr (Or.inr ⟨pick c, Finset.mem_univ _, le_rfl⟩)
  · exact Finset.le_fold_min _ |>.mpr ⟨le_top, fun i _ => pick_le c i⟩

/-- The least position among those holding the least entry is the one `pick` points at. -/
theorem fold_minsi_eq_pick (c : Fin 2048 → EReal) :
    Finset.univ.fold IntOp.minsi 2147483647#32 (fun j : Fin 2048 => if c j = c (pick c) then BitVec.ofNat 32 j.1 else 2048#32)
      = BitVec.ofNat 32 (pick c).1 := by
  have e : (fun j : Fin 2048 => if c j = c (pick c) then BitVec.ofNat 32 j.1 else 2048#32)
      = fun j => BitVec.ofNat 32 (if c j = c (pick c) then j.1 else 2048) := by
    funext j; split <;> rfl
  rw [e, show 2147483647#32 = BitVec.ofNat 32 2147483647 from rfl,
    fold_minsi_ofNat _ _ _ (by norm_num) (fun i => by split <;> omega)]
  refine congrArg (BitVec.ofNat 32) (le_antisymm ?_ ?_)
  · exact Finset.fold_min_le _ |>.mpr (Or.inr ⟨pick c, Finset.mem_univ _, by rw [if_pos rfl]⟩)
  · refine Finset.le_fold_min _ |>.mpr ⟨by omega, fun i _ => ?_⟩
    split
    · rename_i h; exact pick_first c i h.le
    · omega

/-- Two positions' words are equal just when the positions are. -/
theorem ofNat_eq_iff (i j : Fin 2048) : BitVec.ofNat 32 i.1 = BitVec.ofNat 32 j.1 ↔ i = j := by
  constructor
  · intro h
    have := congrArg BitVec.toNat h
    simp only [BitVec.toNat_ofNat] at this
    apply Fin.ext; omega
  · rintro rfl; rfl

end Cert.Neighbors

namespace Cert.KernelIdeal

open Idealize.ShloMosaic Cert.KernelIdeal.Gen Cert.Neighbors

/-- Every lane's own position. -/
def lanes : IVec S256x2048 32 := iota .tc S256x2048 32 [1] iota_S256x2048_d1_w32

/-- What a round finds: in every row, the first position of the least entry. -/
def rowPick (cur : FVec Ideal S256x2048 .f32) : IVec S256 32 :=
  multiReductionI .minsi [1] S256
    (select (cmpf .oeq cur (broadcastTo S256x2048 (shapeCast S256x1 (multiReduction .minimumf [1] S256 cur 0x7F800000#32
      reduces_S256x2048_S256 (.inl rfl) rfl) shapeCasts_S256_S256x1) broadcasts_S256x1_S256x2048)) lanes
      (broadcast S256x2048 2048#32)) 2147483647#32 reduces_S256x2048_S256 rfl

/-- What a round leaves: every row with that position overwritten. -/
def rowNext (cur : FVec Ideal S256x2048 .f32) : FVec Ideal S256x2048 .f32 :=
  select (cmpi .eq lanes (broadcastTo S256x2048 (shapeCast S256x1 (rowPick cur) shapeCasts_S256_S256x1) broadcasts_S256x1_S256x2048))
    (broadcast S256x2048 (Scalar.ofBits .f32 0x7F800000#32)) cur

/-- A round finds, in row `r`, the word of the row's `pick`. -/
theorem rowPick_apply (cur : FVec Ideal S256x2048 .f32) (r : Fin 256) :
    rowPick cur (ix1 r) = BitVec.ofNat 32 (pick (n := 2048) fun j => cur (ix2 r j)).1 := by
  unfold rowPick lanes
  pointwise
  rw [ofBits_posInf]
  simp only [fold_min_eq_pick (n := 2048) (fun x => cur (ix2 r x))]
  exact fold_minsi_eq_pick (fun x => cur (ix2 r x))

/-- A round leaves, in row `r`, the row's `next`. -/
theorem rowNext_apply (cur : FVec Ideal S256x2048 .f32) (r : Fin 256) (j : Fin 2048) :
    rowNext cur (ix2 r j) = next (n := 2048) (fun j => cur (ix2 r j)) j := by
  unfold rowNext
  pointwise [rowPick_apply, lanes]
  rw [ofBits_posInf]
  unfold next
  by_cases h : j = pick (n := 2048) fun j => cur (ix2 r j)
  · rw [if_pos h, ← h, IntOp.cmpi_eq_self]; rfl
  · rw [if_neg h]
    have := (ofNat_eq_iff j (pick (n := 2048) fun j => cur (ix2 r j))).not.mpr h
    have hc : IntOp.cmpi .eq (BitVec.ofNat 32 j.1) (BitVec.ofNat 32 (pick (n := 2048) fun j => cur (ix2 r j)).1) = 0#1 := by
      have hb : (BitVec.ofNat 32 j.1 == BitVec.ofNat 32 (pick (n := 2048) fun j => cur (ix2 r j)).1) = false := by simpa using this
      unfold IntOp.cmpi; exact congrArg BitVec.ofBool hb
    rw [hc]; rfl

/-- The rows after `n` rounds. -/
def rowsAfter (d : FVec Ideal S256x2048 .f32) : Nat → FVec Ideal S256x2048 .f32
  | 0 => d
  | n + 1 => rowNext (rowsAfter d n)

/-- Row `r` after `n` rounds. -/
theorem rowsAfter_apply (d : FVec Ideal S256x2048 .f32) (n : Nat) (r : Fin 256) :
    (fun j : Fin 2048 => rowsAfter d n (ix2 r j)) = after (n := 2048) (fun j => d (ix2 r j)) n := by
  induction n with
  | zero => rfl
  | succ n ih =>
    funext j
    show rowNext (rowsAfter d n) (ix2 r j) = next (after (n := 2048) (fun j => d (ix2 r j)) n) j
    rw [rowNext_apply, ih]

/-- The column round `n` stores. -/
def column (d : FVec Ideal S256x2048 .f32) (n : Nat) : IVec S256x1 32 :=
  shapeCast S256x1 (rowPick (rowsAfter d n)) shapeCasts_S256_S256x1

/-- A stored column at row `r`. -/
theorem column_apply (d : FVec Ideal S256x2048 .f32) (n : Nat) (r : Fin 256) (u : Fin 1) :
    column d n (ix2 r u) = BitVec.ofNat 32 (picked (n := 2048) (fun j => d (ix2 r j)) n).1 := by
  unfold column
  pointwise [rowPick_apply]
  rw [rowsAfter_apply]
  rfl

/-- The block the kernel stores, from its rows of distances. -/
def roundsBlock (d : FVec Ideal S256x2048 .f32) : IVec S1x256x16 32 :=
  k1_pay1 (column d 0) (column d 1) (column d 2) (column d 3) (column d 4) (column d 5) (column d 6) (column d 7)
    (column d 8) (column d 9) (column d 10) (column d 11) (column d 12) (column d 13) (column d 14) (column d 15)

/-- The stored block at row `r`, round `c`. -/
theorem roundsBlock_apply (d : FVec Ideal S256x2048 .f32) (u : Fin 1) (r : Fin 256) (c : Fin 16) :
    roundsBlock d (ix3 u r c) = BitVec.ofNat 32 (picked (n := 2048) (fun j => d (ix2 r j)) c).1 := by
  unfold roundsBlock
  unfold k1_pay1
  fin_cases c <;> (pointwise [column_apply])

/-- The kernel's output block is that block of its distances. -/
theorem out1_2_rounds (x0 : Vec Ideal S1x256x8 .f32) (x1 : Vec Ideal S1x3x2048 .f32) :
    out1_2 x0 x1 = roundsBlock (k1_pay2 x0 x1) := by
  unfold_out out1_2
  have z : (![0, 0, 0] : Fin 3 → Nat) = fun _ => 0 := by funext k; fin_cases k <;> rfl
  rw [View.canon_unit_zero z, View.ld_unit_zero z, View.ld_unit_zero z]
  rfl

end Cert.KernelIdeal

end
-- ==== Proof.K1Arr.lean ====
/-
  The second region's array: every point's sixteen nearest points, as numbers within the batch.
-/
module

public import proofs.«01_k».proof.Proof.K0Read
public import proofs.«01_k».proof.Proof.Round1
public import Idealize.ShloMosaic.Lib.Pipeline.Value

@[expose] public section

noncomputable section

namespace Cert.KernelIdeal

open Idealize.ShloMosaic Idealize.ShloMosaic.TcCoe Cert.KernelIdeal.Gen

variable (V : (c : Dev nD) → (b : Ref sig .tc) → Buf (Elt Ideal) ((c : Thread nD τ).loc b))

/-- The batch a grid point works on. -/
def batch1 (t : Fin cfg1.N) : Fin 4 := ⟨t.val / 8, by have h := t.isLt; have e : cfg1.N = 32 := N_1; omega⟩
/-- The point of the batch that is row `r` of the grid point's block. -/
def row1 (t : Fin cfg1.N) (r : Fin 256) : Fin 2048 := ⟨t.val % 8 * 256 + r.val, by have := r.isLt; omega⟩
/-- The grid point that works on a point. -/
def block1 (b : Fin 4) (n : Fin 2048) : Fin cfg1.N :=
  ⟨b.val * 8 + n.val / 256, by have h := n.isLt; have e : cfg1.N = 32 := N_1; rw [e]; omega⟩
/-- Its row in the block. -/
def within1 (n : Fin 2048) : Fin 256 := ⟨n.val % 256, by omega⟩

/-- The batch of a point's block is the point's. -/
theorem batch1_block1 (b : Fin 4) (n : Fin 2048) : batch1 (block1 b n) = b :=
  Fin.ext (by show (b.val * 8 + n.val / 256) / 8 = b.val; have := n.isLt; omega)
/-- A point is a row of its block. -/
theorem row1_block1 (b : Fin 4) (n : Fin 2048) : row1 (block1 b n) (within1 n) = n :=
  Fin.ext (by show (b.val * 8 + n.val / 256) % 8 * 256 + n.val % 256 = n.val; have := n.isLt; omega)

/-- Where a step's block of window 0 of call 1 lies, in blocks. -/
theorem index1_0 : ∀ t : Fin cfg1.N, win1_0.index t (0 : Fin 3) = t.val / 8 ∧ win1_0.index t (1 : Fin 3) = t.val % 8 ∧ win1_0.index t (2 : Fin 3) = 0 :=
  (by decide +kernel : ∀ t : Fin grid1.N, _)
/-- Where a step's block of window 1 of call 1 lies, in blocks. -/
theorem index1_1 : ∀ t : Fin cfg1.N, win1_1.index t (0 : Fin 3) = t.val / 8 ∧ win1_1.index t (1 : Fin 3) = 0 ∧ win1_1.index t (2 : Fin 3) = 0 :=
  (by decide +kernel : ∀ t : Fin grid1.N, _)
/-- Where a step's block of window 2 of call 1 lies, in blocks. -/
theorem index1_2 : ∀ t : Fin cfg1.N, win1_2.index t (0 : Fin 3) = t.val / 8 ∧ win1_2.index t (1 : Fin 3) = t.val % 8 ∧ win1_2.index t (2 : Fin 3) = 0 :=
  (by decide +kernel : ∀ t : Fin grid1.N, _)

/-- Where an entry of a step's block of window 2 of call 1 lies in its array. -/
theorem emb1_2 (t : Fin cfg1.N) (u : Fin 1) (r : Fin 256) (k : Fin 16) :
    ((cfg1.win 2).blk t).view.emb (ix3 u r k) = ix3 (batch1 t) (row1 t r) k := by
  obtain ⟨e0, e1, e2⟩ := index1_2 t
  funext a; apply Fin.ext
  match a with
  | ⟨0, _⟩ => show win1_2.index t (0 : Fin 3) * 1 + 1 * u.val = t.val / 8; omega
  | ⟨1, _⟩ => show win1_2.index t (1 : Fin 3) * 256 + 1 * r.val = t.val % 8 * 256 + r.val; omega
  | ⟨2, _⟩ => show win1_2.index t (2 : Fin 3) * 16 + 1 * k.val = k.val; omega

/-- A step's block of window 0 of call 1, entry by entry. -/
theorem iblk1_0_at (c : Dev nD) (t : Fin cfg1.N) (u : Fin 1) (r : Fin 256) (i : Fin 8) :
    (iblk1 V c 0 t : Vec Ideal S1x256x8 .f32) (ix3 u r i) = (V c main_v9 : Vec Ideal S4x2048x8 .f32) (ix3 (batch1 t) (row1 t r) i) := by
  obtain ⟨e0, e1, e2⟩ := index1_0 t
  show V c main_v9 (((cfg1.win 0).blk t).view.emb (ix3 u r i)) = _
  refine congrArg _ (funext fun a => Fin.ext ?_)
  match a with
  | ⟨0, _⟩ => show win1_0.index t (0 : Fin 3) * 1 + 1 * u.val = t.val / 8; omega
  | ⟨1, _⟩ => show win1_0.index t (1 : Fin 3) * 256 + 1 * r.val = t.val % 8 * 256 + r.val; omega
  | ⟨2, _⟩ => show win1_0.index t (2 : Fin 3) * 8 + 1 * i.val = i.val; omega

/-- A step's block of window 1 of call 1, entry by entry. -/
theorem iblk1_1_at (c : Dev nD) (t : Fin cfg1.N) (u : Fin 1) (i : Fin 3) (j : Fin 2048) :
    (iblk1 V c 1 t : Vec Ideal S1x3x2048 .f32) (ix3 u i j) = (V c main_v11 : Vec Ideal S4x3x2048 .f32) (ix3 (batch1 t) i j) := by
  obtain ⟨e0, e1, e2⟩ := index1_1 t
  show V c main_v11 (((cfg1.win 1).blk t).view.emb (ix3 u i j)) = _
  refine congrArg _ (funext fun a => Fin.ext ?_)
  match a with
  | ⟨0, _⟩ => show win1_1.index t (0 : Fin 3) * 1 + 1 * u.val = t.val / 8; omega
  | ⟨1, _⟩ => show win1_1.index t (1 : Fin 3) * 3 + 1 * i.val = i.val; omega
  | ⟨2, _⟩ => show win1_1.index t (2 : Fin 3) * 2048 + 1 * j.val = j.val; omega

/-- The squared distance the region takes: its two operands' lanes multiplied out. -/
def distArr (x : Vec Ideal S4x2048x8 .f32) (y : Vec Ideal S4x3x2048 .f32) (b : Fin 4) (n j : Fin 2048) : EReal :=
  max ((∑ c : Fin 3, x (ix3 b n ⟨c.1, by omega⟩) * x (ix3 b n ⟨c.1, by omega⟩) + ∑ c : Fin 3, y (ix3 b c j) * y (ix3 b c j))
    - Ideal.ofBits .f32 0x40000000#32 * ∑ c : Fin 3, x (ix3 b n ⟨c.1, by omega⟩) * y (ix3 b c j)) 0

/-- A block of the neighbours. -/
theorem out1_2_at (c : Dev nD) (t : Fin cfg1.N) (u : Fin 1) (r : Fin 256) (k : Fin 16) :
    (out1_2 (iblk1 V c 0 t) (iblk1 V c 1 t) : IVec S1x256x16 32) (ix3 u r k)
      = BitVec.ofNat 32 (Neighbors.picked (n := 2048) (distArr (V c main_v9) (V c main_v11) (batch1 t) (row1 t r)) k).1 := by
  rw [out1_2_rounds]
  refine (roundsBlock_apply _ u r k).trans ?_
  refine congrArg (fun d : Fin 2048 → EReal => BitVec.ofNat 32 (Neighbors.picked (n := 2048) d k).1) (funext fun j => ?_)
  refine (k1_pay2_at _ _ r j).trans ?_
  unfold distArr
  simp only [iblk1_0_at, iblk1_1_at]

/-- The array of the neighbours. -/
theorem final1_2 (c : Dev nD) : (dat1 V c).arrAt 2 cfg1.N = fun i : S4x2048x16.Idx =>
    BitVec.ofNat 32 (Neighbors.picked (n := 2048) (distArr (V c main_v9) (V c main_v11) (i 0) (i 1)) (i 2)).1 := by
  refine (dat1 V c).arrAt_eq_of_cover 2 _ (fun t _ => ?_) fun i => ?_
  · show (cfg1.win 2).cut (grid1.coords t) ((dat1 V c).after 2 t) = _
    rw [after1_2]
    funext y
    obtain ⟨u, r, k, rfl⟩ : ∃ (u : Fin 1) (r : Fin 256) (k : Fin 16), y = ix3 u r k := ⟨y 0, y 1, y 2, ValueIdx.eq_ix3 (n0 := 1) (n1 := 256) (n2 := 16) y⟩
    refine (out1_2_at V c t u r k).trans ?_
    refine Eq.trans ?_ (congrArg (fun i : S4x2048x16.Idx =>
      BitVec.ofNat 32 (Neighbors.picked (n := 2048) (distArr (V c main_v9) (V c main_v11) (i 0) (i 1)) (i 2)).1) (emb1_2 t u r k)).symm
    rfl
  · obtain ⟨b, n, k, rfl⟩ : ∃ (b : Fin 4) (n : Fin 2048) (k : Fin 16), i = ix3 b n k := ⟨i 0, i 1, i 2, ValueIdx.eq_ix3 (n0 := 4) (n1 := 2048) (n2 := 16) i⟩
    refine ⟨block1 b n, flush1_2 _, ?_⟩
    have h := ((cfg1.win 2).blk (block1 b n)).view.emb_mem_set (ix3 (0 : Fin 1) (within1 n) k)
    rw [emb1_2] at h
    rwa [row1_block1, batch1_block1] at h

end Cert.KernelIdeal
-- ==== Proof.K2Read.lean ====
/-
  The third region's block: the attention of 256 points over their sixteen neighbours, the output layers, and the
  normalisation.
-/
module

public import proofs.«01_k».proof.Proof.Gen.KernelIdeal.Frame
public import proofs.«01_k».proof.Proof.Fused
public import Idealize.ShloMosaic.Lib.Pointwise

@[expose] public section

noncomputable section

namespace Cert.KernelIdeal

open Idealize.ShloMosaic Cert.KernelIdeal.Gen

/-- A lane of the block's geometry. -/
theorem k2_pay8_at (g : Vec Ideal S256x8 .f32) (r : Fin 256) : k2_pay8 g (ix1 r) = g (ix2 r 1) := by
  pointwise [k2_pay8, k2_pay4]

/-- A lane of the block's geometry. -/
theorem k2_pay9_at (g : Vec Ideal S256x8 .f32) (r : Fin 256) : k2_pay9 g (ix1 r) = g (ix2 r 2) := by
  pointwise [k2_pay9, k2_pay4]

/-- The normals' lengths, kept away from zero. -/
theorem k2_pay13_at (g : Vec Ideal S256x8 .f32) (r : Fin 256) :
    k2_pay13 g (ix1 r) = max (Ideal.sqrt (g (ix2 r 3) * g (ix2 r 3) + g (ix2 r 4) * g (ix2 r 4) + g (ix2 r 5) * g (ix2 r 5)))
      (Ideal.ofBits .f32 0x2B8CBCCC#32) := by
  pointwise [k2_pay13, k2_pay10, k2_pay11, k2_pay12, k2_pay4]

/-- The unit normals' first lane. -/
theorem k2_pay14_at (g : Vec Ideal S256x8 .f32) (r : Fin 256) : k2_pay14 g (ix1 r) = Ideal.div (g (ix2 r 3)) (k2_pay13 g (ix1 r)) := by
  unfold k2_pay14
  generalize k2_pay13 g = d
  pointwise [k2_pay10, k2_pay4]

/-- The unit normals' second lane. -/
theorem k2_pay15_at (g : Vec Ideal S256x8 .f32) (r : Fin 256) : k2_pay15 g (ix1 r) = Ideal.div (g (ix2 r 4)) (k2_pay13 g (ix1 r)) := by
  unfold k2_pay15
  generalize k2_pay13 g = d
  pointwise [k2_pay11, k2_pay4]

/-- The unit normals' third lane. -/
theorem k2_pay16_at (g : Vec Ideal S256x8 .f32) (r : Fin 256) : k2_pay16 g (ix1 r) = Ideal.div (g (ix2 r 5)) (k2_pay13 g (ix1 r)) := by
  unfold k2_pay16
  generalize k2_pay13 g = d
  pointwise [k2_pay12, k2_pay4]

/-- The displacements' first lane. -/
theorem k2_pay17_at (g : Vec Ideal S256x8 .f32) (g' : Vec Ideal S1x256x16x8 .f32) (r : Fin 256) (j : Fin 16) :
    k2_pay17 g g' (ix2 r j) = g (ix2 r 0) - g' (ix4 (0 : Fin 1) r j 0) := by
  pointwise [k2_pay17, k2_pay4, k2_pay7]

/-- The displacements' second lane. -/
theorem k2_pay18_at (g' : Vec Ideal S1x256x16x8 .f32) (p : FVec Ideal S256 .f32) (r : Fin 256) (j : Fin 16) :
    k2_pay18 (k2_pay7 g') p (ix2 r j) = p (ix1 r) - g' (ix4 (0 : Fin 1) r j 1) := by
  pointwise [k2_pay18, k2_pay7]

/-- The displacements' third lane. -/
theorem k2_pay19_at (g' : Vec Ideal S1x256x16x8 .f32) (p : FVec Ideal S256 .f32) (r : Fin 256) (j : Fin 16) :
    k2_pay19 (k2_pay7 g') p (ix2 r j) = p (ix1 r) - g' (ix4 (0 : Fin 1) r j 2) := by
  pointwise [k2_pay19, k2_pay7]

/-- The distances, from the displacements. -/
theorem k2_pay20_at (v11 : FVec Ideal S256x16x8 .f32) (v15 v17 : FVec Ideal S256 .f32) (v39 : FVec Ideal S256x16 .f32) (r : Fin 256) (j : Fin 16) :
    k2_pay20 v11 v15 v17 v39 (ix2 r j) = Ideal.sqrt (v39 (ix2 r j) * v39 (ix2 r j) + k2_pay18 v11 v15 (ix2 r j) * k2_pay18 v11 v15 (ix2 r j)
      + k2_pay19 v11 v17 (ix2 r j) * k2_pay19 v11 v17 (ix2 r j) + Ideal.ofBits .f32 0x1E3CE508#32) := by
  unfold k2_pay20
  generalize k2_pay18 v11 v15 = a
  generalize k2_pay19 v11 v17 = b
  pointwise []

/-- The cosines, from the displacements, the distances and the unit normals. -/
theorem k2_pay21_at (v11 : FVec Ideal S256x16x8 .f32) (v15 v17 v32 v33 v34 : FVec Ideal S256 .f32) (v39 : FVec Ideal S256x16 .f32) (r : Fin 256) (j : Fin 16) :
    k2_pay21 v11 v15 v17 v32 v33 v34 v39 (ix2 r j) = min (Ideal.ofBits .f32 0x3F7FFFEF#32) (max (Ideal.ofBits .f32 0xBF7FFFEF#32)
      (Ideal.div (v39 (ix2 r j) * v32 (ix1 r) + k2_pay18 v11 v15 (ix2 r j) * v33 (ix1 r) + k2_pay19 v11 v17 (ix2 r j) * v34 (ix1 r))
        (k2_pay20 v11 v15 v17 v39 (ix2 r j) + Ideal.ofBits .f32 0x322BCC77#32))) := by
  unfold k2_pay21
  generalize k2_pay20 v11 v15 v17 v39 = d
  generalize k2_pay18 v11 v15 = a
  generalize k2_pay19 v11 v17 = b
  pointwise []

/-- The hidden layer, from the distances, the cosines, their magnitudes and the polynomial's inner part. -/
theorem k2_pay24_at (v57 v75 v76 v90 : FVec Ideal S256x16 .f32) (w0 w1 : Vec Ideal S1x256 .f32) (b : Vec Ideal S256 .f32)
    (r : Fin 256) (j : Fin 16) (o : Fin 256) :
    k2_pay24 v57 v75 v76 v90 w0 w1 b (ix3 r j o)
      = max (v57 (ix2 r j) * w0 (ix2 (0 : Fin 1) o)
        + (if v75 (ix2 r j) < 0 then Ideal.ofBits .f32 0x40490FDB#32 - Ideal.sqrt (max (1 - v76 (ix2 r j)) 0) * (((v90 (ix2 r j) + Ideal.ofBits .f32 0x3DB63A9E#32) * v76 (ix2 r j) + Ideal.ofBits .f32 0xBE5BBFCA#32) * v76 (ix2 r j) + Ideal.ofBits .f32 0x3FC90FDA#32)
          else Ideal.sqrt (max (1 - v76 (ix2 r j)) 0) * (((v90 (ix2 r j) + Ideal.ofBits .f32 0x3DB63A9E#32) * v76 (ix2 r j) + Ideal.ofBits .f32 0xBE5BBFCA#32) * v76 (ix2 r j) + Ideal.ofBits .f32 0x3FC90FDA#32)) * w1 (ix2 (0 : Fin 1) o)
        + b (ix1 o)) 0 := by
  pointwise [k2_pay24]

/-- The magnitudes and the polynomial's inner part. -/
theorem k2_pay23_at (v11 : FVec Ideal S256x16x8 .f32) (v15 v17 v32 v33 v34 : FVec Ideal S256 .f32) (v39 : FVec Ideal S256x16 .f32) (r : Fin 256) (j : Fin 16) (c : EReal)
    (h : k2_pay21 v11 v15 v17 v32 v33 v34 v39 (ix2 r j) = c) :
    k2_pay23 v11 v15 v17 v32 v33 v34 v39 (ix2 r j) = ((((Ideal.ofBits .f32 0xBAA57A2C#32 * Spec.mag c + Ideal.ofBits .f32 0x3BDA90C5#32) * Spec.mag c + Ideal.ofBits .f32 0xBC8BFC66#32) * Spec.mag c
    + Ideal.ofBits .f32 0x3CFD10F8#32) * Spec.mag c + Ideal.ofBits .f32 0xBD4D8392#32) * Spec.mag c := by
  subst h
  unfold k2_pay23 k2_pay22
  generalize k2_pay21 v11 v15 v17 v32 v33 v34 v39 = d
  pointwise []
  rfl

/-- The scores' first part. -/
theorem k2_pay25_at (q : FVec Ideal S256x256 .f32) (k : Vec Ideal S1x256x16x256 .f32) (r : Fin 256) (j : Fin 16) :
    k2_pay25 q (k2_pay5 k) (ix2 r j) = ∑ x : Fin 256, q (ix2 r x) * k (ix4 (0 : Fin 1) r j x) := by
  pointwise [k2_pay25, k2_pay5]

/-- The scores' second factor. -/
theorem k2_pay26_at (qp : Vec Ideal S256x256 .f32) (r : Fin 256) (j : Fin 16) (x : Fin 256) :
    k2_pay26 (k2_pay3 qp) (ix3 r j x) = qp (ix2 r x) := by
  pointwise [k2_pay26, k2_pay3]

/-- The attention and the output layers, from the hidden layer and the two parts of the scores. -/
theorem k2_pay27_at (val : Vec Ideal S1x256x16x256 .f32) (hid : FVec Ideal S256x16x256 .f32) (qk : FVec Ideal S256x16 .f32)
    (qp : FVec Ideal S256x16x256 .f32) (wp : Vec Ideal S256x256 .f32) (bp : Vec Ideal S256 .f32) (w1 : Vec Ideal S256x256 .f32)
    (b1 : Vec Ideal S256 .f32) (w2 : Vec Ideal S256x256 .f32) (r o : Fin 256) :
    k2_pay27 (k2_pay6 val) hid qk qp wp bp w1 b1 w2 (ix2 r o)
      = ∑ k : Fin 256, max (∑ c : Fin 256, Fused.attend (fun o k => wp (ix2 k o)) (fun o => bp (ix1 o))
          (fun j => (qk (ix2 r j) + ∑ x : Fin 256, qp (ix3 r j x) * hid (ix3 r j x)) * Ideal.ofBits .f32 0x3D800000#32)
          (fun j c => val (ix4 (0 : Fin 1) r j c)) (fun j c => hid (ix3 r j c)) c * w1 (ix2 c k) + b1 (ix1 k)) 0 * w2 (ix2 k o) := by
  pointwise [k2_pay27, k2_pay6]
  rfl

/-- The normalisation of a row. -/
theorem k2_pay1_at (q y : FVec Ideal S256x256 .f32) (b g b' : Vec Ideal S256 .f32) (r : Fin 256) (o : Fin 256) :
    k2_pay1 q y b g b' (ix2 r o) = Spec.norm (fun o => y (ix2 r o) + b (ix1 o) + q (ix2 r o)) (fun o => g (ix1 o)) (fun o => b' (ix1 o)) o := by
  pointwise [k2_pay1]
  rfl

end Cert.KernelIdeal
-- ==== Proof.K2Arr.lean ====
/-
  The third region's array: the result, a row a point.
-/
module

public import proofs.«01_k».proof.Proof.K2Read
public import Idealize.ShloMosaic.Lib.Pipeline.Value

@[expose] public section

noncomputable section

namespace Cert.KernelIdeal

open Idealize.ShloMosaic Idealize.ShloMosaic.TcCoe Cert.KernelIdeal.Gen

/-- What the region computes of one point: its query and projected query, its geometry (position, normal), its neighbours'
    keys, values and geometry, and the weights. -/
def attn (q qp : Fin 256 → EReal) (geo : Fin 8 → EReal) (key val : Fin 16 → Fin 256 → EReal) (geo' : Fin 16 → Fin 8 → EReal)
    (x6 : Vec Ideal S2x256 .f32) (x7 : Vec Ideal S256 .f32) (x8 : Vec Ideal S256x256 .f32) (x9 : Vec Ideal S256 .f32)
    (x10 : Vec Ideal S256x256 .f32) (x11 : Vec Ideal S256 .f32) (x12 : Vec Ideal S256x256 .f32) (x13 : Vec Ideal S256 .f32)
    (x14 : Vec Ideal S256 .f32) (x15 : Vec Ideal S256 .f32) (o : Fin 256) : EReal :=
  Spec.norm (Fused.row (fun o k => x8 (ix2 k o)) (fun o => x9 (ix1 o)) (fun o k => x10 (ix2 k o)) (fun o => x11 (ix1 o))
      (fun o k => x12 (ix2 k o)) (fun o => x13 (ix1 o)) q qp key val
      (fun j => Fused.inner (fun o t => x6 (ix2 t o)) (fun o => x7 (ix1 o)) (fun c => geo ⟨c.val, by omega⟩)
        (fun c => geo' j ⟨c.val, by omega⟩) (fun c => geo ⟨3 + c.val, by omega⟩)))
    (fun o => x14 (ix1 o)) (fun o => x15 (ix1 o)) o

/-- The zero offset of a matrix. -/
theorem zero2' : (![0, 0] : Fin 2 → Nat) = fun _ => 0 := by funext k; fin_cases k <;> rfl
/-- The zero offset of a vector. -/
theorem zero1' : (![0] : Fin 1 → Nat) = fun _ => 0 := by funext k; fin_cases k; rfl
/-- The zero offset of an array of rank four. -/
theorem zero4 : (![0, 0, 0, 0] : Fin 4 → Nat) = fun _ => 0 := by funext k; fin_cases k <;> rfl
/-- A load of the whole of a block shaped like window 0 of call 2 is the block. -/
theorem ld2_0 (x : Vec Ideal S256x256 .f32) : View.ld x r2_0 = x := View.ld_unit_zero zero2' _ x
/-- A load of the whole of a block shaped like window 1 of call 2 is the block. -/
theorem ld2_1 (x : Vec Ideal S256x8 .f32) : View.ld x r2_1 = x := View.ld_unit_zero zero2' _ x
/-- A load of the whole of a block shaped like window 2 of call 2 is the block. -/
theorem ld2_2 (x : Vec Ideal S1x256x16x256 .f32) : View.ld x r2_2 = x := View.ld_unit_zero zero4 _ x
/-- A load of the whole of a block shaped like window 3 of call 2 is the block. -/
theorem ld2_3 (x : Vec Ideal S1x256x16x8 .f32) : View.ld x r2_3 = x := View.ld_unit_zero zero4 _ x
/-- A load of the whole of a block shaped like window 6 of call 2 is the block. -/
theorem ld2_6 (x : Vec Ideal S256 .f32) : View.ld x r2_6 = x := View.ld_unit_zero zero1' _ x

/-- The first row of the position code's first weight. -/
theorem ld2_4_at (x : Vec Ideal S2x256 .f32) (o : Fin 256) : (View.ld x r2_4 : Vec Ideal S1x256 .f32) (ix2 (0 : Fin 1) o) = x (ix2 (0 : Fin 2) o) := by
  show x (r2_4.emb (ix2 (0 : Fin 1) o)) = _
  refine congrArg _ (funext fun a => Fin.ext ?_)
  match a with
  | ⟨0, _⟩ => rfl
  | ⟨1, _⟩ => show 0 + 1 * o.val = o.val; omega

/-- The second row of the position code's first weight. -/
theorem ld2_5_at (x : Vec Ideal S2x256 .f32) (o : Fin 256) : (View.ld x r2_5 : Vec Ideal S1x256 .f32) (ix2 (0 : Fin 1) o) = x (ix2 (1 : Fin 2) o) := by
  show x (r2_5.emb (ix2 (0 : Fin 1) o)) = _
  refine congrArg _ (funext fun a => Fin.ext ?_)
  match a with
  | ⟨0, _⟩ => rfl
  | ⟨1, _⟩ => show 0 + 1 * o.val = o.val; omega

/-- The queries of a block. -/
theorem k2_pay2_at (q : Vec Ideal S256x256 .f32) (r : Fin 256) (o : Fin 256) : k2_pay2 q (ix2 r o) = q (ix2 r o) := by
  pointwise [k2_pay2]

section Block

variable (g : Vec Ideal S256x8 .f32) (g' : Vec Ideal S1x256x16x8 .f32)

/-- The distances of a block. -/
theorem radial_at (r : Fin 256) (j : Fin 16) :
    k2_pay20 (k2_pay7 g') (k2_pay8 g) (k2_pay9 g) (k2_pay17 g g') (ix2 r j)
      = Spec.radial (fun c => g (ix2 r ⟨c.val, by omega⟩)) (fun c => g' (ix4 (0 : Fin 1) r j ⟨c.val, by omega⟩)) := by
  rw [k2_pay20_at, k2_pay17_at, k2_pay18_at, k2_pay19_at, k2_pay8_at, k2_pay9_at]
  unfold Spec.radial
  rw [Fin.sum_univ_three]
  rfl

/-- The cosines of a block. -/
theorem ratio_at (r : Fin 256) (j : Fin 16) :
    k2_pay21 (k2_pay7 g') (k2_pay8 g) (k2_pay9 g) (k2_pay14 g) (k2_pay15 g) (k2_pay16 g) (k2_pay17 g g') (ix2 r j)
      = Fused.ratio (fun c => g (ix2 r ⟨c.val, by omega⟩)) (fun c => g' (ix4 (0 : Fin 1) r j ⟨c.val, by omega⟩))
          (fun c => g (ix2 r ⟨3 + c.val, by omega⟩)) := by
  rw [k2_pay21_at, radial_at, k2_pay17_at, k2_pay18_at, k2_pay19_at, k2_pay8_at, k2_pay9_at, k2_pay14_at, k2_pay15_at, k2_pay16_at,
    k2_pay13_at]
  unfold Fused.ratio Spec.unit
  rw [Fin.sum_univ_three, Fin.sum_univ_three]
  rfl

/-- The hidden layer of a block. -/
theorem hidden_at (w : Vec Ideal S2x256 .f32) (b : Vec Ideal S256 .f32) (r : Fin 256) (j : Fin 16) (o : Fin 256) :
    k2_pay24 (k2_pay20 (k2_pay7 g') (k2_pay8 g) (k2_pay9 g) (k2_pay17 g g'))
      (k2_pay21 (k2_pay7 g') (k2_pay8 g) (k2_pay9 g) (k2_pay14 g) (k2_pay15 g) (k2_pay16 g) (k2_pay17 g g'))
      (k2_pay22 (k2_pay7 g') (k2_pay8 g) (k2_pay9 g) (k2_pay14 g) (k2_pay15 g) (k2_pay16 g) (k2_pay17 g g'))
      (k2_pay23 (k2_pay7 g') (k2_pay8 g) (k2_pay9 g) (k2_pay14 g) (k2_pay15 g) (k2_pay16 g) (k2_pay17 g g'))
      (View.ld w r2_4) (View.ld w r2_5) b (ix3 r j o)
      = Fused.inner (fun o t => w (ix2 t o)) (fun o => b (ix1 o)) (fun c => g (ix2 r ⟨c.val, by omega⟩))
          (fun c => g' (ix4 (0 : Fin 1) r j ⟨c.val, by omega⟩)) (fun c => g (ix2 r ⟨3 + c.val, by omega⟩)) o := by
  rw [k2_pay24_at, radial_at, k2_pay23_at _ _ _ _ _ _ _ _ _ _ (ratio_at g g' r j),
    show k2_pay22 (k2_pay7 g') (k2_pay8 g) (k2_pay9 g) (k2_pay14 g) (k2_pay15 g) (k2_pay16 g) (k2_pay17 g g') (ix2 r j)
      = Spec.mag (k2_pay21 (k2_pay7 g') (k2_pay8 g) (k2_pay9 g) (k2_pay14 g) (k2_pay15 g) (k2_pay16 g) (k2_pay17 g g') (ix2 r j)) from rfl,
    ratio_at, ld2_4_at, ld2_5_at]
  rfl

end Block

/-- A block of the result. -/
theorem out2_16_at (x0 x1 : Vec Ideal S256x256 .f32) (x2 : Vec Ideal S256x8 .f32) (x3 x4 : Vec Ideal S1x256x16x256 .f32)
    (x5 : Vec Ideal S1x256x16x8 .f32) (x6 : Vec Ideal S2x256 .f32) (x7 : Vec Ideal S256 .f32) (x8 : Vec Ideal S256x256 .f32)
    (x9 : Vec Ideal S256 .f32) (x10 : Vec Ideal S256x256 .f32) (x11 : Vec Ideal S256 .f32) (x12 : Vec Ideal S256x256 .f32)
    (x13 x14 x15 : Vec Ideal S256 .f32) (r : Fin 256) (o : Fin 256) :
    (out2_16 x0 x1 x2 x3 x4 x5 x6 x7 x8 x9 x10 x11 x12 x13 x14 x15 : Vec Ideal S256x256 .f32) (ix2 r o)
      = attn (fun x => x0 (ix2 r x)) (fun x => x1 (ix2 r x)) (fun x => x2 (ix2 r x)) (fun j x => x3 (ix4 (0 : Fin 1) r j x))
          (fun j x => x4 (ix4 (0 : Fin 1) r j x)) (fun j x => x5 (ix4 (0 : Fin 1) r j x)) x6 x7 x8 x9 x10 x11 x12 x13 x14 x15 o := by
  unfold_out out2_16
  rw [View.canon_unit_zero zero2']
  simp only [ld2_0, ld2_1, ld2_2, ld2_3, ld2_6]
  refine (k2_pay1_at _ _ _ _ _ r o).trans ?_
  unfold attn
  refine congrArg (fun y => Spec.norm y _ _ o) (funext fun o => ?_)
  rw [k2_pay27_at]
  simp only [hidden_at, k2_pay25_at, k2_pay26_at, k2_pay2_at]
  unfold Fused.row Spec.mlp Fused.score
  rfl

variable (V : (c : Dev nD) → (b : Ref sig .tc) → Buf (Elt Ideal) ((c : Thread nD τ).loc b))

/-- The row of the array that is row `r` of block `t`. -/
def row2 (t : Fin cfg2.N) (r : Fin 256) : Fin 8192 :=
  ⟨t.val * 256 + r.val, by have h := t.isLt; have e : cfg2.N = 32 := N_2; have := r.isLt; omega⟩
/-- A grid point as a block's number. -/
def num2 (t : Fin cfg2.N) : Fin 32 := ⟨t.val, by have h := t.isLt; have e : cfg2.N = 32 := N_2; omega⟩
/-- The block a row of the array lies in. -/
def block2 (g : Fin 8192) : Fin cfg2.N :=
  ⟨g.val / 256, by have h := g.isLt; have e : cfg2.N = 32 := N_2; rw [e]; omega⟩
/-- The block's number. -/
def tile2 (g : Fin 8192) : Fin 32 := ⟨g.val / 256, by omega⟩
/-- Its row in that block. -/
def within2 (g : Fin 8192) : Fin 256 := ⟨g.val % 256, by omega⟩
/-- A flat row is a row of its block. -/
theorem row2_block2 (g : Fin 8192) : row2 (block2 g) (within2 g) = g :=
  Fin.ext (by show g.val / 256 * 256 + g.val % 256 = g.val; omega)
/-- The tile of a block's row is the block's. -/
theorem tile2_row2 (t : Fin cfg2.N) (r : Fin 256) : tile2 (row2 t r) = num2 t :=
  Fin.ext (by show (t.val * 256 + r.val) / 256 = t.val; have := r.isLt; omega)
/-- The place of a block's row in its block. -/
theorem within2_row2 (t : Fin cfg2.N) (r : Fin 256) : within2 (row2 t r) = r :=
  Fin.ext (by show (t.val * 256 + r.val) % 256 = r.val; have := r.isLt; omega)

/-- Where a step's block of window 0 of call 2 lies, in blocks. -/
theorem index2_0 : ∀ t : Fin cfg2.N, win2_0.index t (0 : Fin 2) = t.val ∧ win2_0.index t (1 : Fin 2) = 0 :=
  (by decide +kernel : ∀ t : Fin grid2.N, _)

/-- Where an entry of a step's block of window 0 of call 2 lies in its array. -/
theorem emb2_0 (t : Fin cfg2.N) (r : Fin 256) (i : Fin 256) : ((cfg2.win 0).blk t).view.emb (ix2 r i) = ix2 (row2 t r) i := by
  obtain ⟨e0, e1⟩ := index2_0 t
  funext a; apply Fin.ext
  match a with
  | ⟨0, _⟩ => show win2_0.index t (0 : Fin 2) * 256 + 1 * r.val = t.val * 256 + r.val; omega
  | ⟨1, _⟩ => show win2_0.index t (1 : Fin 2) * 256 + 1 * i.val = i.val; omega

/-- A step's block of window 0 of call 2, entry by entry. -/
theorem iblk2_0_at (c : Dev nD) (t : Fin cfg2.N) (r : Fin 256) (i : Fin 256) :
    (iblk2 V c 0 t : Vec Ideal S256x256 .f32) (ix2 r i) = (V c main_v7_0 : Vec Ideal S8192x256 .f32) (ix2 (row2 t r) i) := by
  show V c main_v7_0 (((cfg2.win 0).blk t).view.emb (ix2 r i)) = _
  rw [emb2_0]

/-- Where a step's block of window 1 of call 2 lies, in blocks. -/
theorem index2_1 : ∀ t : Fin cfg2.N, win2_1.index t (0 : Fin 2) = t.val ∧ win2_1.index t (1 : Fin 2) = 0 :=
  (by decide +kernel : ∀ t : Fin grid2.N, _)

/-- Where an entry of a step's block of window 1 of call 2 lies in its array. -/
theorem emb2_1 (t : Fin cfg2.N) (r : Fin 256) (i : Fin 256) : ((cfg2.win 1).blk t).view.emb (ix2 r i) = ix2 (row2 t r) i := by
  obtain ⟨e0, e1⟩ := index2_1 t
  funext a; apply Fin.ext
  match a with
  | ⟨0, _⟩ => show win2_1.index t (0 : Fin 2) * 256 + 1 * r.val = t.val * 256 + r.val; omega
  | ⟨1, _⟩ => show win2_1.index t (1 : Fin 2) * 256 + 1 * i.val = i.val; omega

/-- A step's block of window 1 of call 2, entry by entry. -/
theorem iblk2_1_at (c : Dev nD) (t : Fin cfg2.N) (r : Fin 256) (i : Fin 256) :
    (iblk2 V c 1 t : Vec Ideal S256x256 .f32) (ix2 r i) = (V c main_v7_3 : Vec Ideal S8192x256 .f32) (ix2 (row2 t r) i) := by
  show V c main_v7_3 (((cfg2.win 1).blk t).view.emb (ix2 r i)) = _
  rw [emb2_1]

/-- Where a step's block of window 2 of call 2 lies, in blocks. -/
theorem index2_2 : ∀ t : Fin cfg2.N, win2_2.index t (0 : Fin 2) = t.val ∧ win2_2.index t (1 : Fin 2) = 0 :=
  (by decide +kernel : ∀ t : Fin grid2.N, _)

/-- Where an entry of a step's block of window 2 of call 2 lies in its array. -/
theorem emb2_2 (t : Fin cfg2.N) (r : Fin 256) (i : Fin 8) : ((cfg2.win 2).blk t).view.emb (ix2 r i) = ix2 (row2 t r) i := by
  obtain ⟨e0, e1⟩ := index2_2 t
  funext a; apply Fin.ext
  match a with
  | ⟨0, _⟩ => show win2_2.index t (0 : Fin 2) * 256 + 1 * r.val = t.val * 256 + r.val; omega
  | ⟨1, _⟩ => show win2_2.index t (1 : Fin 2) * 8 + 1 * i.val = i.val; omega

/-- A step's block of window 2 of call 2, entry by entry. -/
theorem iblk2_2_at (c : Dev nD) (t : Fin cfg2.N) (r : Fin 256) (i : Fin 8) :
    (iblk2 V c 2 t : Vec Ideal S256x8 .f32) (ix2 r i) = (V c main_v42 : Vec Ideal S8192x8 .f32) (ix2 (row2 t r) i) := by
  show V c main_v42 (((cfg2.win 2).blk t).view.emb (ix2 r i)) = _
  rw [emb2_2]

/-- Where a step's block of window 16 of call 2 lies, in blocks. -/
theorem index2_16 : ∀ t : Fin cfg2.N, win2_16.index t (0 : Fin 2) = t.val ∧ win2_16.index t (1 : Fin 2) = 0 :=
  (by decide +kernel : ∀ t : Fin grid2.N, _)

/-- Where an entry of a step's block of window 16 of call 2 lies in its array. -/
theorem emb2_16 (t : Fin cfg2.N) (r : Fin 256) (i : Fin 256) : ((cfg2.win 16).blk t).view.emb (ix2 r i) = ix2 (row2 t r) i := by
  obtain ⟨e0, e1⟩ := index2_16 t
  funext a; apply Fin.ext
  match a with
  | ⟨0, _⟩ => show win2_16.index t (0 : Fin 2) * 256 + 1 * r.val = t.val * 256 + r.val; omega
  | ⟨1, _⟩ => show win2_16.index t (1 : Fin 2) * 256 + 1 * i.val = i.val; omega

/-- Where a step's block of window 3 of call 2 lies, in blocks. -/
theorem index2_3 : ∀ t : Fin cfg2.N, win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)

/-- A step's block of window 3 of call 2, entry by entry. -/
theorem iblk2_3_at (c : Dev nD) (t : Fin cfg2.N) (u : Fin 1) (r : Fin 256) (j : Fin 16) (i : Fin 256) :
    (iblk2 V c 3 t : Vec Ideal S1x256x16x256 .f32) (ix4 u r j i) = (V c main_v47 : Vec Ideal S32x256x16x256 .f32) (ix4 (num2 t) r j i) := by
  obtain ⟨e0, e1, e2, e3⟩ := index2_3 t
  show V c main_v47 (((cfg2.win 3).blk t).view.emb (ix4 u r j i)) = _
  refine congrArg _ (funext fun a => Fin.ext ?_)
  match a with
  | ⟨0, _⟩ => show win2_3.index t (0 : Fin 4) * 1 + 1 * u.val = t.val; omega
  | ⟨1, _⟩ => show win2_3.index t (1 : Fin 4) * 256 + 1 * r.val = r.val; omega
  | ⟨2, _⟩ => show win2_3.index t (2 : Fin 4) * 16 + 1 * j.val = j.val; omega
  | ⟨3, _⟩ => show win2_3.index t (3 : Fin 4) * 256 + 1 * i.val = i.val; omega

/-- Where a step's block of window 4 of call 2 lies, in blocks. -/
theorem index2_4 : ∀ t : Fin cfg2.N, win2_4.index t (0 : Fin 4) = t.val ∧ win2_4.index t (1 : Fin 4) = 0 ∧ win2_4.index t (2 : Fin 4) = 0 ∧ win2_4.index t (3 : Fin 4) = 0 :=
  (by decide +kernel : ∀ t : Fin grid2.N, _)

/-- A step's block of window 4 of call 2, entry by entry. -/
theorem iblk2_4_at (c : Dev nD) (t : Fin cfg2.N) (u : Fin 1) (r : Fin 256) (j : Fin 16) (i : Fin 256) :
    (iblk2 V c 4 t : Vec Ideal S1x256x16x256 .f32) (ix4 u r j i) = (V c main_v48 : Vec Ideal S32x256x16x256 .f32) (ix4 (num2 t) r j i) := by
  obtain ⟨e0, e1, e2, e3⟩ := index2_4 t
  show V c main_v48 (((cfg2.win 4).blk t).view.emb (ix4 u r j i)) = _
  refine congrArg _ (funext fun a => Fin.ext ?_)
  match a with
  | ⟨0, _⟩ => show win2_4.index t (0 : Fin 4) * 1 + 1 * u.val = t.val; omega
  | ⟨1, _⟩ => show win2_4.index t (1 : Fin 4) * 256 + 1 * r.val = r.val; omega
  | ⟨2, _⟩ => show win2_4.index t (2 : Fin 4) * 16 + 1 * j.val = j.val; omega
  | ⟨3, _⟩ => show win2_4.index t (3 : Fin 4) * 256 + 1 * i.val = i.val; omega

/-- Where a step's block of window 5 of call 2 lies, in blocks. -/
theorem index2_5 : ∀ t : Fin cfg2.N, win2_5.index t (0 : Fin 4) = t.val ∧ win2_5.index t (1 : Fin 4) = 0 ∧ win2_5.index t (2 : Fin 4) = 0 ∧ win2_5.index t (3 : Fin 4) = 0 :=
  (by decide +kernel : ∀ t : Fin grid2.N, _)

/-- A step's block of window 5 of call 2, entry by entry. -/
theorem iblk2_5_at (c : Dev nD) (t : Fin cfg2.N) (u : Fin 1) (r : Fin 256) (j : Fin 16) (i : Fin 8) :
    (iblk2 V c 5 t : Vec Ideal S1x256x16x8 .f32) (ix4 u r j i) = (V c main_v49 : Vec Ideal S32x256x16x8 .f32) (ix4 (num2 t) r j i) := by
  obtain ⟨e0, e1, e2, e3⟩ := index2_5 t
  show V c main_v49 (((cfg2.win 5).blk t).view.emb (ix4 u r j i)) = _
  refine congrArg _ (funext fun a => Fin.ext ?_)
  match a with
  | ⟨0, _⟩ => show win2_5.index t (0 : Fin 4) * 1 + 1 * u.val = t.val; omega
  | ⟨1, _⟩ => show win2_5.index t (1 : Fin 4) * 256 + 1 * r.val = r.val; omega
  | ⟨2, _⟩ => show win2_5.index t (2 : Fin 4) * 16 + 1 * j.val = j.val; omega
  | ⟨3, _⟩ => show win2_5.index t (3 : Fin 4) * 8 + 1 * i.val = i.val; omega

/-- Where a step's block of window 6 of call 2 lies, in blocks. -/
theorem index2_6 : ∀ t : Fin cfg2.N, win2_6.index t (0 : Fin 2) = 0 ∧ win2_6.index t (1 : Fin 2) = 0 :=
  (by decide +kernel : ∀ t : Fin grid2.N, _)

/-- A step's block of window 6 of call 2 is the whole array. -/
theorem iblk2_6_eq (c : Dev nD) (t : Fin cfg2.N) : (iblk2 V c 6 t : Vec Ideal S2x256 .f32) = (V c main_v43 : Vec Ideal S2x256 .f32) := by
  obtain ⟨e0, e1⟩ := index2_6 t
  funext z
  show V c main_v43 (((cfg2.win 6).blk t).view.emb z) = _
  refine congrArg _ (funext fun a => Fin.ext ?_)
  match a with
  | ⟨0, _⟩ => show win2_6.index t (0 : Fin 2) * 2 + 1 * (z 0).val = (z 0).val; omega
  | ⟨1, _⟩ => show win2_6.index t (1 : Fin 2) * 256 + 1 * (z 1).val = (z 1).val; omega

/-- Where a step's block of window 7 of call 2 lies, in blocks. -/
theorem index2_7 : ∀ t : Fin cfg2.N, win2_7.index t (0 : Fin 1) = 0 :=
  (by decide +kernel : ∀ t : Fin grid2.N, _)

/-- A step's block of window 7 of call 2 is the whole array. -/
theorem iblk2_7_eq (c : Dev nD) (t : Fin cfg2.N) : (iblk2 V c 7 t : Vec Ideal S256 .f32) = (V c main_arg17 : Vec Ideal S256 .f32) := by
  have e0 := index2_7 t
  funext z
  show V c main_arg17 (((cfg2.win 7).blk t).view.emb z) = _
  refine congrArg _ (funext fun a => Fin.ext ?_)
  match a with
  | ⟨0, _⟩ => show win2_7.index t (0 : Fin 1) * 256 + 1 * (z 0).val = (z 0).val; omega

/-- Where a step's block of window 8 of call 2 lies, in blocks. -/
theorem index2_8 : ∀ t : Fin cfg2.N, win2_8.index t (0 : Fin 2) = 0 ∧ win2_8.index t (1 : Fin 2) = 0 :=
  (by decide +kernel : ∀ t : Fin grid2.N, _)

/-- A step's block of window 8 of call 2 is the whole array. -/
theorem iblk2_8_eq (c : Dev nD) (t : Fin cfg2.N) : (iblk2 V c 8 t : Vec Ideal S256x256 .f32) = (V c main_v44 : Vec Ideal S256x256 .f32) := by
  obtain ⟨e0, e1⟩ := index2_8 t
  funext z
  show V c main_v44 (((cfg2.win 8).blk t).view.emb z) = _
  refine congrArg _ (funext fun a => Fin.ext ?_)
  match a with
  | ⟨0, _⟩ => show win2_8.index t (0 : Fin 2) * 256 + 1 * (z 0).val = (z 0).val; omega
  | ⟨1, _⟩ => show win2_8.index t (1 : Fin 2) * 256 + 1 * (z 1).val = (z 1).val; omega

/-- Where a step's block of window 9 of call 2 lies, in blocks. -/
theorem index2_9 : ∀ t : Fin cfg2.N, win2_9.index t (0 : Fin 1) = 0 :=
  (by decide +kernel : ∀ t : Fin grid2.N, _)

/-- A step's block of window 9 of call 2 is the whole array. -/
theorem iblk2_9_eq (c : Dev nD) (t : Fin cfg2.N) : (iblk2 V c 9 t : Vec Ideal S256 .f32) = (V c main_arg19 : Vec Ideal S256 .f32) := by
  have e0 := index2_9 t
  funext z
  show V c main_arg19 (((cfg2.win 9).blk t).view.emb z) = _
  refine congrArg _ (funext fun a => Fin.ext ?_)
  match a with
  | ⟨0, _⟩ => show win2_9.index t (0 : Fin 1) * 256 + 1 * (z 0).val = (z 0).val; omega

/-- Where a step's block of window 10 of call 2 lies, in blocks. -/
theorem index2_10 : ∀ t : Fin cfg2.N, win2_10.index t (0 : Fin 2) = 0 ∧ win2_10.index t (1 : Fin 2) = 0 :=
  (by decide +kernel : ∀ t : Fin grid2.N, _)

/-- A step's block of window 10 of call 2 is the whole array. -/
theorem iblk2_10_eq (c : Dev nD) (t : Fin cfg2.N) : (iblk2 V c 10 t : Vec Ideal S256x256 .f32) = (V c main_v45 : Vec Ideal S256x256 .f32) := by
  obtain ⟨e0, e1⟩ := index2_10 t
  funext z
  show V c main_v45 (((cfg2.win 10).blk t).view.emb z) = _
  refine congrArg _ (funext fun a => Fin.ext ?_)
  match a with
  | ⟨0, _⟩ => show win2_10.index t (0 : Fin 2) * 256 + 1 * (z 0).val = (z 0).val; omega
  | ⟨1, _⟩ => show win2_10.index t (1 : Fin 2) * 256 + 1 * (z 1).val = (z 1).val; omega

/-- Where a step's block of window 11 of call 2 lies, in blocks. -/
theorem index2_11 : ∀ t : Fin cfg2.N, win2_11.index t (0 : Fin 1) = 0 :=
  (by decide +kernel : ∀ t : Fin grid2.N, _)

/-- A step's block of window 11 of call 2 is the whole array. -/
theorem iblk2_11_eq (c : Dev nD) (t : Fin cfg2.N) : (iblk2 V c 11 t : Vec Ideal S256 .f32) = (V c main_arg21 : Vec Ideal S256 .f32) := by
  have e0 := index2_11 t
  funext z
  show V c main_arg21 (((cfg2.win 11).blk t).view.emb z) = _
  refine congrArg _ (funext fun a => Fin.ext ?_)
  match a with
  | ⟨0, _⟩ => show win2_11.index t (0 : Fin 1) * 256 + 1 * (z 0).val = (z 0).val; omega

/-- Where a step's block of window 12 of call 2 lies, in blocks. -/
theorem index2_12 : ∀ t : Fin cfg2.N, win2_12.index t (0 : Fin 2) = 0 ∧ win2_12.index t (1 : Fin 2) = 0 :=
  (by decide +kernel : ∀ t : Fin grid2.N, _)

/-- A step's block of window 12 of call 2 is the whole array. -/
theorem iblk2_12_eq (c : Dev nD) (t : Fin cfg2.N) : (iblk2 V c 12 t : Vec Ideal S256x256 .f32) = (V c main_v46 : Vec Ideal S256x256 .f32) := by
  obtain ⟨e0, e1⟩ := index2_12 t
  funext z
  show V c main_v46 (((cfg2.win 12).blk t).view.emb z) = _
  refine congrArg _ (funext fun a => Fin.ext ?_)
  match a with
  | ⟨0, _⟩ => show win2_12.index t (0 : Fin 2) * 256 + 1 * (z 0).val = (z 0).val; omega
  | ⟨1, _⟩ => show win2_12.index t (1 : Fin 2) * 256 + 1 * (z 1).val = (z 1).val; omega

/-- Where a step's block of window 13 of call 2 lies, in blocks. -/
theorem index2_13 : ∀ t : Fin cfg2.N, win2_13.index t (0 : Fin 1) = 0 :=
  (by decide +kernel : ∀ t : Fin grid2.N, _)

/-- A step's block of window 13 of call 2 is the whole array. -/
theorem iblk2_13_eq (c : Dev nD) (t : Fin cfg2.N) : (iblk2 V c 13 t : Vec Ideal S256 .f32) = (V c main_arg23 : Vec Ideal S256 .f32) := by
  have e0 := index2_13 t
  funext z
  show V c main_arg23 (((cfg2.win 13).blk t).view.emb z) = _
  refine congrArg _ (funext fun a => Fin.ext ?_)
  match a with
  | ⟨0, _⟩ => show win2_13.index t (0 : Fin 1) * 256 + 1 * (z 0).val = (z 0).val; omega

/-- Where a step's block of window 14 of call 2 lies, in blocks. -/
theorem index2_14 : ∀ t : Fin cfg2.N, win2_14.index t (0 : Fin 1) = 0 :=
  (by decide +kernel : ∀ t : Fin grid2.N, _)

/-- A step's block of window 14 of call 2 is the whole array. -/
theorem iblk2_14_eq (c : Dev nD) (t : Fin cfg2.N) : (iblk2 V c 14 t : Vec Ideal S256 .f32) = (V c main_arg24 : Vec Ideal S256 .f32) := by
  have e0 := index2_14 t
  funext z
  show V c main_arg24 (((cfg2.win 14).blk t).view.emb z) = _
  refine congrArg _ (funext fun a => Fin.ext ?_)
  match a with
  | ⟨0, _⟩ => show win2_14.index t (0 : Fin 1) * 256 + 1 * (z 0).val = (z 0).val; omega

/-- Where a step's block of window 15 of call 2 lies, in blocks. -/
theorem index2_15 : ∀ t : Fin cfg2.N, win2_15.index t (0 : Fin 1) = 0 :=
  (by decide +kernel : ∀ t : Fin grid2.N, _)

/-- A step's block of window 15 of call 2 is the whole array. -/
theorem iblk2_15_eq (c : Dev nD) (t : Fin cfg2.N) : (iblk2 V c 15 t : Vec Ideal S256 .f32) = (V c main_arg25 : Vec Ideal S256 .f32) := by
  have e0 := index2_15 t
  funext z
  show V c main_arg25 (((cfg2.win 15).blk t).view.emb z) = _
  refine congrArg _ (funext fun a => Fin.ext ?_)
  match a with
  | ⟨0, _⟩ => show win2_15.index t (0 : Fin 1) * 256 + 1 * (z 0).val = (z 0).val; omega

/-- The result at a point and a lane, from the arrays the region finds. -/
def attnArr (c : Dev nD) (g : Fin 8192) (o : Fin 256) : EReal :=
  attn (fun x => (V c main_v7_0 : Vec Ideal S8192x256 .f32) (ix2 g x)) (fun x => (V c main_v7_3 : Vec Ideal S8192x256 .f32) (ix2 g x))
    (fun x => (V c main_v42 : Vec Ideal S8192x8 .f32) (ix2 g x))
    (fun j x => (V c main_v47 : Vec Ideal S32x256x16x256 .f32) (ix4 (tile2 g) (within2 g) j x))
    (fun j x => (V c main_v48 : Vec Ideal S32x256x16x256 .f32) (ix4 (tile2 g) (within2 g) j x))
    (fun j x => (V c main_v49 : Vec Ideal S32x256x16x8 .f32) (ix4 (tile2 g) (within2 g) j x))
    (V c main_v43) (V c main_arg17) (V c main_v44) (V c main_arg19) (V c main_v45) (V c main_arg21) (V c main_v46) (V c main_arg23) (V c main_arg24) (V c main_arg25) o

/-- The array of the result. -/
theorem final2_16 (c : Dev nD) : (dat2 V c).arrAt 16 cfg2.N = fun i : S8192x256.Idx => attnArr V c (i 0) (i 1) := by
  refine (dat2 V c).arrAt_eq_of_cover 16 _ (fun t _ => ?_) fun i => ?_
  · show (cfg2.win 16).cut (grid2.coords t) ((dat2 V c).after 16 t) = _
    rw [after2_16]
    funext y
    obtain ⟨r, o, rfl⟩ : ∃ (r : Fin 256) (o : Fin 256), y = ix2 r o := ⟨y 0, y 1, ValueIdx.eq_ix2 (n0 := 256) (n1 := 256) y⟩
    refine (out2_16_at _ _ _ _ _ _ _ _ _ _ _ _ _ _ _ _ r o).trans ?_
    refine Eq.trans ?_ (congrArg (fun i : S8192x256.Idx => attnArr V c (i 0) (i 1)) (emb2_16 t r o)).symm
    show _ = attnArr V c (row2 t r) o
    unfold attnArr
    rw [tile2_row2, within2_row2, iblk2_6_eq, iblk2_7_eq, iblk2_8_eq, iblk2_9_eq, iblk2_10_eq, iblk2_11_eq, iblk2_12_eq, iblk2_13_eq,
      iblk2_14_eq, iblk2_15_eq]
    simp only [iblk2_0_at, iblk2_1_at, iblk2_2_at, iblk2_3_at, iblk2_4_at, iblk2_5_at]
  · obtain ⟨g, o, rfl⟩ : ∃ (g : Fin 8192) (o : Fin 256), i = ix2 g o := ⟨i 0, i 1, ValueIdx.eq_ix2 (n0 := 8192) (n1 := 256) i⟩
    refine ⟨block2 g, flush2_16 _, ?_⟩
    have h := ((cfg2.win 16).blk (block2 g)).view.emb_mem_set (ix2 (within2 g) o)
    rw [emb2_16] at h
    rwa [row2_block2] at h

end Cert.KernelIdeal
-- ==== Proof.Chain.lean ====
/-
  The kernel's result at a point: what each region finds and leaves, followed from the launch to the return.
-/
module

public import proofs.«01_k».proof.Proof.Host
public import proofs.«01_k».proof.Proof.K0Arr
public import proofs.«01_k».proof.Proof.K1Arr
public import proofs.«01_k».proof.Proof.K2Arr

@[expose] public section

noncomputable section

namespace Cert.KernelIdeal

open Idealize.ShloMosaic Idealize.ShloMosaic.TcCoe Cert.KernelIdeal.Gen

variable (m : (l : Loc nD τ sig) → Buf (Elt Ideal) l) (ρ : Dev nD → PrngReg) (c : Dev nD)

/-- Argument 0 as launched. -/
abbrev a0 : Vec Ideal S4x2048x256 .f32 := m ((c.tc : Thread nD τ).loc main_arg0)
/-- Argument 1 as launched. -/
abbrev a1 : Vec Ideal S4x2048x3 .f32 := m ((c.tc : Thread nD τ).loc main_arg1)
/-- Argument 2 as launched. -/
abbrev a2 : Vec Ideal S4x2048x3 .f32 := m ((c.tc : Thread nD τ).loc main_arg2)
/-- Argument 4 as launched. -/
abbrev a4 : Vec Ideal S256x256 .f32 := m ((c.tc : Thread nD τ).loc main_arg4)
/-- Argument 5 as launched. -/
abbrev a5 : Vec Ideal S256 .f32 := m ((c.tc : Thread nD τ).loc main_arg5)
/-- Argument 6 as launched. -/
abbrev a6 : Vec Ideal S256x256 .f32 := m ((c.tc : Thread nD τ).loc main_arg6)
/-- Argument 7 as launched. -/
abbrev a7 : Vec Ideal S256 .f32 := m ((c.tc : Thread nD τ).loc main_arg7)
/-- Argument 8 as launched. -/
abbrev a8 : Vec Ideal S256x256 .f32 := m ((c.tc : Thread nD τ).loc main_arg8)
/-- Argument 9 as launched. -/
abbrev a9 : Vec Ideal S256 .f32 := m ((c.tc : Thread nD τ).loc main_arg9)
/-- Argument 10 as launched. -/
abbrev a10 : Vec Ideal S256x256 .f32 := m ((c.tc : Thread nD τ).loc main_arg10)
/-- Argument 11 as launched. -/
abbrev a11 : Vec Ideal S256 .f32 := m ((c.tc : Thread nD τ).loc main_arg11)
/-- Argument 12 as launched. -/
abbrev a12 : Vec Ideal S256x256 .f32 := m ((c.tc : Thread nD τ).loc main_arg12)
/-- Argument 13 as launched. -/
abbrev a13 : Vec Ideal S256 .f32 := m ((c.tc : Thread nD τ).loc main_arg13)
/-- Argument 14 as launched. -/
abbrev a14 : Vec Ideal S256x256 .f32 := m ((c.tc : Thread nD τ).loc main_arg14)
/-- Argument 15 as launched. -/
abbrev a15 : Vec Ideal S256 .f32 := m ((c.tc : Thread nD τ).loc main_arg15)
/-- Argument 16 as launched. -/
abbrev a16 : Vec Ideal S256x2 .f32 := m ((c.tc : Thread nD τ).loc main_arg16)
/-- Argument 17 as launched. -/
abbrev a17 : Vec Ideal S256 .f32 := m ((c.tc : Thread nD τ).loc main_arg17)
/-- Argument 18 as launched. -/
abbrev a18 : Vec Ideal S256x256 .f32 := m ((c.tc : Thread nD τ).loc main_arg18)
/-- Argument 19 as launched. -/
abbrev a19 : Vec Ideal S256 .f32 := m ((c.tc : Thread nD τ).loc main_arg19)
/-- Argument 20 as launched. -/
abbrev a20 : Vec Ideal S256x256 .f32 := m ((c.tc : Thread nD τ).loc main_arg20)
/-- Argument 21 as launched. -/
abbrev a21 : Vec Ideal S256 .f32 := m ((c.tc : Thread nD τ).loc main_arg21)
/-- Argument 22 as launched. -/
abbrev a22 : Vec Ideal S256x256 .f32 := m ((c.tc : Thread nD τ).loc main_arg22)
/-- Argument 23 as launched. -/
abbrev a23 : Vec Ideal S256 .f32 := m ((c.tc : Thread nD τ).loc main_arg23)
/-- Argument 24 as launched. -/
abbrev a24 : Vec Ideal S256 .f32 := m ((c.tc : Thread nD τ).loc main_arg24)
/-- Argument 25 as launched. -/
abbrev a25 : Vec Ideal S256 .f32 := m ((c.tc : Thread nD τ).loc main_arg25)

/-- A square weight, read at (output, input). -/
abbrev sq (w : Vec Ideal S256x256 .f32) (o i : Fin 256) : EReal := w (ix2 o i)
/-- A bias. -/
abbrev ln (b : Vec Ideal S256 .f32) (o : Fin 256) : EReal := b (ix1 o)

/-- The query of a point. -/
def query (b : Fin 4) (n : Fin 2048) : Fin 256 → EReal :=
  Spec.mlp (sq (a4 m c)) (ln (a5 m c)) (sq (a6 m c)) (ln (a7 m c)) (fun i => a0 m c (ix3 b n i))
/-- The key of a point. -/
def keyOf (b : Fin 4) (n : Fin 2048) : Fin 256 → EReal :=
  Spec.mlp (sq (a8 m c)) (ln (a9 m c)) (sq (a10 m c)) (ln (a11 m c)) (fun i => a0 m c (ix3 b n i))
/-- The value of a point. -/
def valueOf (b : Fin 4) (n : Fin 2048) : Fin 256 → EReal :=
  Spec.mlp (sq (a12 m c)) (ln (a13 m c)) (sq (a14 m c)) (ln (a15 m c)) (fun i => a0 m c (ix3 b n i))
/-- The neighbours of a point. -/
def nearOf (b : Fin 4) (n : Fin 2048) : Fin 16 → Fin 2048 := Spec.near (fun n k => a1 m c (ix3 b n k)) n

/-! ## What the first region finds and leaves -/

/-- The dense pair over a flattened row is `query` of the point. -/
theorem mlp_query (b : Fin 4) (n : Fin 2048) :
    mlpArr (V1 m ρ c main_v0) (V1 m ρ c main_v1) (V1 m ρ c main_arg5) (V1 m ρ c main_v2) (V1 m ρ c main_arg7) (flatRow b n)
      = query m c b n := by
  funext o
  unfold mlpArr query
  rw [show (V1 m ρ c main_arg5 : Vec Ideal S256 .f32) = a5 m c from W1_args m ρ c main_arg5 (by decide),
    show (V1 m ρ c main_arg7 : Vec Ideal S256 .f32) = a7 m c from W1_args m ρ c main_arg7 (by decide)]
  rw [show (fun o i => (V1 m ρ c main_v1 : Vec Ideal S256x256 .f32) (ix2 i o)) = sq (a4 m c) from
      funext fun o => funext fun i => host0_v1 (W0 m ρ c) i o,
    show (fun o i => (V1 m ρ c main_v2 : Vec Ideal S256x256 .f32) (ix2 i o)) = sq (a6 m c) from
      funext fun o => funext fun i => host0_v2 (W0 m ρ c) i o,
    show (fun i => (V1 m ρ c main_v0 : Vec Ideal S8192x256 .f32) (ix2 (flatRow b n) i)) = fun i => a0 m c (ix3 b n i) from
      funext fun i => host0_v0 (W0 m ρ c) b n i]

/-- `query` in the first region's result. -/
theorem W2_query (b : Fin 4) (n : Fin 2048) (o : Fin 256) :
    (W2 m ρ c (Proc.devRef .tc main_v7_0) : Vec Ideal S8192x256 .f32) (ix2 (flatRow b n) o) = query m c b n o := by
  have e : (W2 m ρ c (Proc.devRef .tc main_v7_0) : Vec Ideal S8192x256 .f32) = _ := (W2_arr m ρ c 14).trans (final0_14 (V1 m ρ) c)
  rw [e]
  exact congrFun (mlp_query m ρ c b n) o

/-- The dense pair over a flattened row is `keyOf` of the point. -/
theorem mlp_keyOf (b : Fin 4) (n : Fin 2048) :
    mlpArr (V1 m ρ c main_v0) (V1 m ρ c main_v3) (V1 m ρ c main_arg9) (V1 m ρ c main_v4) (V1 m ρ c main_arg11) (flatRow b n)
      = keyOf m c b n := by
  funext o
  unfold mlpArr keyOf
  rw [show (V1 m ρ c main_arg9 : Vec Ideal S256 .f32) = a9 m c from W1_args m ρ c main_arg9 (by decide),
    show (V1 m ρ c main_arg11 : Vec Ideal S256 .f32) = a11 m c from W1_args m ρ c main_arg11 (by decide)]
  rw [show (fun o i => (V1 m ρ c main_v3 : Vec Ideal S256x256 .f32) (ix2 i o)) = sq (a8 m c) from
      funext fun o => funext fun i => host0_v3 (W0 m ρ c) i o,
    show (fun o i => (V1 m ρ c main_v4 : Vec Ideal S256x256 .f32) (ix2 i o)) = sq (a10 m c) from
      funext fun o => funext fun i => host0_v4 (W0 m ρ c) i o,
    show (fun i => (V1 m ρ c main_v0 : Vec Ideal S8192x256 .f32) (ix2 (flatRow b n) i)) = fun i => a0 m c (ix3 b n i) from
      funext fun i => host0_v0 (W0 m ρ c) b n i]

/-- `keyOf` in the first region's result. -/
theorem W2_keyOf (b : Fin 4) (n : Fin 2048) (o : Fin 256) :
    (W2 m ρ c (Proc.devRef .tc main_v7_1) : Vec Ideal S8192x256 .f32) (ix2 (flatRow b n) o) = keyOf m c b n o := by
  have e : (W2 m ρ c (Proc.devRef .tc main_v7_1) : Vec Ideal S8192x256 .f32) = _ := (W2_arr m ρ c 15).trans (final0_15 (V1 m ρ) c)
  rw [e]
  exact congrFun (mlp_keyOf m ρ c b n) o

/-- The dense pair over a flattened row is `valueOf` of the point. -/
theorem mlp_valueOf (b : Fin 4) (n : Fin 2048) :
    mlpArr (V1 m ρ c main_v0) (V1 m ρ c main_v5) (V1 m ρ c main_arg13) (V1 m ρ c main_v6) (V1 m ρ c main_arg15) (flatRow b n)
      = valueOf m c b n := by
  funext o
  unfold mlpArr valueOf
  rw [show (V1 m ρ c main_arg13 : Vec Ideal S256 .f32) = a13 m c from W1_args m ρ c main_arg13 (by decide),
    show (V1 m ρ c main_arg15 : Vec Ideal S256 .f32) = a15 m c from W1_args m ρ c main_arg15 (by decide)]
  rw [show (fun o i => (V1 m ρ c main_v5 : Vec Ideal S256x256 .f32) (ix2 i o)) = sq (a12 m c) from
      funext fun o => funext fun i => host0_v5 (W0 m ρ c) i o,
    show (fun o i => (V1 m ρ c main_v6 : Vec Ideal S256x256 .f32) (ix2 i o)) = sq (a14 m c) from
      funext fun o => funext fun i => host0_v6 (W0 m ρ c) i o,
    show (fun i => (V1 m ρ c main_v0 : Vec Ideal S8192x256 .f32) (ix2 (flatRow b n) i)) = fun i => a0 m c (ix3 b n i) from
      funext fun i => host0_v0 (W0 m ρ c) b n i]

/-- `valueOf` in the first region's result. -/
theorem W2_valueOf (b : Fin 4) (n : Fin 2048) (o : Fin 256) :
    (W2 m ρ c (Proc.devRef .tc main_v7_2) : Vec Ideal S8192x256 .f32) (ix2 (flatRow b n) o) = valueOf m c b n o := by
  have e : (W2 m ρ c (Proc.devRef .tc main_v7_2) : Vec Ideal S8192x256 .f32) = _ := (W2_arr m ρ c 16).trans (final0_16 (V1 m ρ) c)
  rw [e]
  exact congrFun (mlp_valueOf m ρ c b n) o

/-- The projected query in the first region's result. -/
theorem W2_projected (b : Fin 4) (n : Fin 2048) (o : Fin 256) :
    (W2 m ρ c (Proc.devRef .tc main_v7_3) : Vec Ideal S8192x256 .f32) (ix2 (flatRow b n) o)
      = ∑ k, query m c b n k * a18 m c (ix2 k o) := by
  have e : (W2 m ρ c (Proc.devRef .tc main_v7_3) : Vec Ideal S8192x256 .f32) = _ := (W2_arr m ρ c 17).trans (final0_17 (V1 m ρ) c)
  rw [e]
  show ∑ k : Fin 256, mlpArr (V1 m ρ c main_v0) (V1 m ρ c main_v1) (V1 m ρ c main_arg5) (V1 m ρ c main_v2) (V1 m ρ c main_arg7) (flatRow b n) k
    * (V1 m ρ c main_arg18 : Vec Ideal S256x256 .f32) (ix2 k o) = _
  rw [mlp_query, show (V1 m ρ c main_arg18 : Vec Ideal S256x256 .f32) = a18 m c from W1_args m ρ c main_arg18 (by decide)]

/-! ## What the second region finds and leaves -/

/-- The geometry table the second region finds. -/
theorem W3_geometry : (W3 m ρ c (Proc.devRef .tc main_v9) : Vec Ideal S4x2048x8 .f32) = geometry (a1 m c) (a2 m c) := by
  refine (host1_v9 (W2 m ρ c)).trans ?_
  rw [show (W2 m ρ c (Proc.devRef .tc main_arg1) : Vec Ideal S4x2048x3 .f32) = a1 m c from W2_args m ρ c main_arg1 (by decide),
    show (W2 m ρ c (Proc.devRef .tc main_arg2) : Vec Ideal S4x2048x3 .f32) = a2 m c from W2_args m ρ c main_arg2 (by decide)]

/-- The exchanged positions the second region finds. -/
theorem W3_exchanged (b : Fin 4) (k : Fin 3) (n : Fin 2048) :
    (W3 m ρ c (Proc.devRef .tc main_v11) : Vec Ideal S4x3x2048 .f32) (ix3 b k n) = a1 m c (ix3 b n k) := by
  refine (host1_v11 (W2 m ρ c) b k n).trans ?_
  rw [show (W2 m ρ c (Proc.devRef .tc main_arg1) : Vec Ideal S4x2048x3 .f32) = a1 m c from W2_args m ρ c main_arg1 (by decide)]

/-- The second region's distances are those of the positions. -/
theorem dist_eq (b : Fin 4) (n : Fin 2048) : distArr (V3 m ρ c main_v9) (V3 m ρ c main_v11) b n = Spec.dist (fun n k => a1 m c (ix3 b n k)) n := by
  funext j
  unfold distArr Spec.dist
  rw [show (V3 m ρ c main_v9 : Vec Ideal S4x2048x8 .f32) = geometry (a1 m c) (a2 m c) from W3_geometry m ρ c]
  simp only [geometry_pos, show ∀ k j, (V3 m ρ c main_v11 : Vec Ideal S4x3x2048 .f32) (ix3 b k j) = a1 m c (ix3 b j k) from
    fun k j => W3_exchanged m ρ c b k j]

/-- The neighbours the second region leaves. -/
theorem W4_near (b : Fin 4) (n : Fin 2048) (k : Fin 16) :
    (W4 m ρ c (Proc.devRef .tc main_v12) : IVec S4x2048x16 32) (ix3 b n k) = BitVec.ofNat 32 (nearOf m c b n k).val := by
  have e : (W4 m ρ c (Proc.devRef .tc main_v12) : IVec S4x2048x16 32) = _ := (W4_arr m ρ c 2).trans (final1_2 (V3 m ρ) c)
  rw [e]
  show BitVec.ofNat 32 (Neighbors.picked (n := 2048) (distArr (V3 m ρ c main_v9) (V3 m ρ c main_v11) b n) k).1 = _
  rw [dist_eq]
  rfl

/-- The geometry table after the second region. -/
theorem W4_geometry : (W4 m ρ c (Proc.devRef .tc main_v9) : Vec Ideal S4x2048x8 .f32) = geometry (a1 m c) (a2 m c) :=
  (W4_of m ρ c main_v9 (by decide)).trans (W3_geometry m ρ c)

/-- `query` after the second region. -/
theorem W4_query (b : Fin 4) (n : Fin 2048) (o : Fin 256) :
    (W4 m ρ c (Proc.devRef .tc main_v7_0) : Vec Ideal S8192x256 .f32) (ix2 (flatRow b n) o) = query m c b n o := by
  rw [show (W4 m ρ c (Proc.devRef .tc main_v7_0) : Vec Ideal S8192x256 .f32) = W2 m ρ c (Proc.devRef .tc main_v7_0) from
    (W4_of_ne m ρ c main_v7_0 (by decide)).trans (W3_of m ρ c main_v7_0 (by decide))]
  exact W2_query m ρ c b n o

/-- `keyOf` after the second region. -/
theorem W4_keyOf (b : Fin 4) (n : Fin 2048) (o : Fin 256) :
    (W4 m ρ c (Proc.devRef .tc main_v7_1) : Vec Ideal S8192x256 .f32) (ix2 (flatRow b n) o) = keyOf m c b n o := by
  rw [show (W4 m ρ c (Proc.devRef .tc main_v7_1) : Vec Ideal S8192x256 .f32) = W2 m ρ c (Proc.devRef .tc main_v7_1) from
    (W4_of_ne m ρ c main_v7_1 (by decide)).trans (W3_of m ρ c main_v7_1 (by decide))]
  exact W2_keyOf m ρ c b n o

/-- `valueOf` after the second region. -/
theorem W4_valueOf (b : Fin 4) (n : Fin 2048) (o : Fin 256) :
    (W4 m ρ c (Proc.devRef .tc main_v7_2) : Vec Ideal S8192x256 .f32) (ix2 (flatRow b n) o) = valueOf m c b n o := by
  rw [show (W4 m ρ c (Proc.devRef .tc main_v7_2) : Vec Ideal S8192x256 .f32) = W2 m ρ c (Proc.devRef .tc main_v7_2) from
    (W4_of_ne m ρ c main_v7_2 (by decide)).trans (W3_of m ρ c main_v7_2 (by decide))]
  exact W2_valueOf m ρ c b n o

/-- The projected query after the second region. -/
theorem W4_projected (b : Fin 4) (n : Fin 2048) (o : Fin 256) :
    (W4 m ρ c (Proc.devRef .tc main_v7_3) : Vec Ideal S8192x256 .f32) (ix2 (flatRow b n) o)
      = ∑ k, query m c b n k * a18 m c (ix2 k o) := by
  rw [show (W4 m ρ c (Proc.devRef .tc main_v7_3) : Vec Ideal S8192x256 .f32) = W2 m ρ c (Proc.devRef .tc main_v7_3) from
    (W4_of_ne m ρ c main_v7_3 (by decide)).trans (W3_of m ρ c main_v7_3 (by decide))]
  exact W2_projected m ρ c b n o

/-! ## What the third region finds and leaves -/

/-- The kernel's result at a point. -/
def resultAt (b : Fin 4) (n : Fin 2048) (o : Fin 256) : EReal :=
  Spec.norm (Fused.row (sq (a18 m c)) (ln (a19 m c)) (sq (a20 m c)) (ln (a21 m c)) (sq (a22 m c)) (ln (a23 m c))
      (query m c b n) (fun o => ∑ k, query m c b n k * a18 m c (ix2 k o))
      (fun j => keyOf m c b (nearOf m c b n j)) (fun j => valueOf m c b (nearOf m c b n j))
      (fun j => Fused.inner (fun o t => a16 m c (ix2 o t)) (ln (a17 m c)) (fun k => a1 m c (ix3 b n k))
        (fun k => a1 m c (ix3 b (nearOf m c b n j) k)) (fun k => a2 m c (ix3 b n k))))
    (ln (a24 m c)) (ln (a25 m c)) o

/-- What the third region computes for a row is the kernel's result at its point. -/
theorem attnArr_eq (b : Fin 4) (n : Fin 2048) (o : Fin 256) : attnArr (V5 m ρ) c (flatRow b n) o = resultAt m c b n o := by
  unfold attnArr
  rw [show (fun x => (V5 m ρ c main_v7_0 : Vec Ideal S8192x256 .f32) (ix2 (flatRow b n) x)) = query m c b n from funext fun x => by
      rw [show (V5 m ρ c main_v7_0 : Vec Ideal S8192x256 .f32) = W4 m ρ c (Proc.devRef .tc main_v7_0) from W5_of m ρ c main_v7_0 (by decide)]
      exact W4_query m ρ c b n x,
    show (fun x => (V5 m ρ c main_v7_3 : Vec Ideal S8192x256 .f32) (ix2 (flatRow b n) x)) = fun o => ∑ k, query m c b n k * a18 m c (ix2 k o) from
      funext fun x => by
        rw [show (V5 m ρ c main_v7_3 : Vec Ideal S8192x256 .f32) = W4 m ρ c (Proc.devRef .tc main_v7_3) from W5_of m ρ c main_v7_3 (by decide)]
        exact W4_projected m ρ c b n x,
    show (fun x => (V5 m ρ c main_v42 : Vec Ideal S8192x8 .f32) (ix2 (flatRow b n) x)) = fun x => geometry (a1 m c) (a2 m c) (ix3 b n x) from
      funext fun x => (host2_v42 (W4 m ρ c) b n x).trans (congrFun (W4_geometry m ρ c) _),
    show (fun j x => (V5 m ρ c main_v47 : Vec Ideal S32x256x16x256 .f32) (ix4 (tile2 (flatRow b n)) (within2 (flatRow b n)) j x))
        = fun j => keyOf m c b (nearOf m c b n j) from
      funext fun j => funext fun x => (host2_v47 (W4 m ρ c) _ rfl b n j _ (W4_near m ρ c b n j) x).trans (W4_keyOf m ρ c b _ x),
    show (fun j x => (V5 m ρ c main_v48 : Vec Ideal S32x256x16x256 .f32) (ix4 (tile2 (flatRow b n)) (within2 (flatRow b n)) j x))
        = fun j => valueOf m c b (nearOf m c b n j) from
      funext fun j => funext fun x => (host2_v48 (W4 m ρ c) _ rfl b n j _ (W4_near m ρ c b n j) x).trans (W4_valueOf m ρ c b _ x),
    show (fun j x => (V5 m ρ c main_v49 : Vec Ideal S32x256x16x8 .f32) (ix4 (tile2 (flatRow b n)) (within2 (flatRow b n)) j x))
        = fun j x => geometry (a1 m c) (a2 m c) (ix3 b (nearOf m c b n j) x) from
      funext fun j => funext fun x => (host2_v49 (W4 m ρ c) _ rfl b n j _ (W4_near m ρ c b n j) x).trans (congrFun (W4_geometry m ρ c) _)]
  rw [show (V5 m ρ c main_arg17 : Vec Ideal S256 .f32) = a17 m c from W5_args m ρ c main_arg17 (by decide)]
  rw [show (V5 m ρ c main_arg19 : Vec Ideal S256 .f32) = a19 m c from W5_args m ρ c main_arg19 (by decide)]
  rw [show (V5 m ρ c main_arg21 : Vec Ideal S256 .f32) = a21 m c from W5_args m ρ c main_arg21 (by decide)]
  rw [show (V5 m ρ c main_arg23 : Vec Ideal S256 .f32) = a23 m c from W5_args m ρ c main_arg23 (by decide)]
  rw [show (V5 m ρ c main_arg24 : Vec Ideal S256 .f32) = a24 m c from W5_args m ρ c main_arg24 (by decide)]
  rw [show (V5 m ρ c main_arg25 : Vec Ideal S256 .f32) = a25 m c from W5_args m ρ c main_arg25 (by decide)]
  unfold attn resultAt
  rw [show (fun o k => (V5 m ρ c main_v44 : Vec Ideal S256x256 .f32) (ix2 k o)) = sq (a18 m c) from
      funext fun o => funext fun k => (host2_v44 (W4 m ρ c) k o).trans (congrFun (W4_args m ρ c main_arg18 (by decide)) _),
    show (fun o k => (V5 m ρ c main_v45 : Vec Ideal S256x256 .f32) (ix2 k o)) = sq (a20 m c) from
      funext fun o => funext fun k => (host2_v45 (W4 m ρ c) k o).trans (congrFun (W4_args m ρ c main_arg20 (by decide)) _),
    show (fun o k => (V5 m ρ c main_v46 : Vec Ideal S256x256 .f32) (ix2 k o)) = sq (a22 m c) from
      funext fun o => funext fun k => (host2_v46 (W4 m ρ c) k o).trans (congrFun (W4_args m ρ c main_arg22 (by decide)) _),
    show (fun o t => (V5 m ρ c main_v43 : Vec Ideal S2x256 .f32) (ix2 t o)) = fun o t => a16 m c (ix2 o t) from
      funext fun o => funext fun t => (host2_v43 (W4 m ρ c) t o).trans (congrFun (W4_args m ρ c main_arg16 (by decide)) _)]
  simp only [geometry_pos, geometry_nrm]

/-- The array the kernel leaves. -/
theorem W6_result (b : Fin 4) (n : Fin 2048) (o : Fin 256) :
    (W6 m ρ c (Proc.devRef .tc main_v50) : Vec Ideal S8192x256 .f32) (ix2 (flatRow b n) o) = resultAt m c b n o := by
  have e : (W6 m ρ c (Proc.devRef .tc main_v50) : Vec Ideal S8192x256 .f32) = _ := (W6_arr m ρ c 16).trans (final2_16 (V5 m ρ) c)
  rw [e]
  exact attnArr_eq m ρ c b n o

end Cert.KernelIdeal
-- ==== Proof.Reals.lean ====
/-
  The extended reals' operations at real numbers: square root, division, exponential, constants and sums stay real.
-/
module

public import Idealize.ShloMosaic.Lib.Pointwise

@[expose] public section

noncomputable section

namespace Cert.Reals

open Idealize.ShloMosaic

/-- A number that is neither infinity. -/
def IsReal (x : EReal) : Prop := ∃ r : ℝ, x = (r : EReal)

/-- A real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- A number between the infinities is real. -/
theorem isReal_of_ne {x : EReal} (h : x ≠ ⊤) (h' : x ≠ ⊥) : IsReal x := ⟨x.toReal, (EReal.coe_toReal h h').symm⟩

/-- A real number is not plus infinity. -/
theorem IsReal.ne_top {x : EReal} (h : IsReal x) : x ≠ ⊤ := by obtain ⟨r, rfl⟩ := h; exact EReal.coe_ne_top r
/-- A real number is not minus infinity. -/
theorem IsReal.ne_bot {x : EReal} (h : IsReal x) : x ≠ ⊥ := by obtain ⟨r, rfl⟩ := h; exact EReal.coe_ne_bot r

/-- A sum of two real numbers is real. -/
theorem IsReal.add {x y : EReal} (hx : IsReal x) (hy : IsReal y) : IsReal (x + y) := by
  obtain ⟨r, rfl⟩ := hx; obtain ⟨s, rfl⟩ := hy; exact ⟨r + s, (EReal.coe_add r s).symm⟩

/-- A difference of two real numbers is real. -/
theorem IsReal.sub {x y : EReal} (hx : IsReal x) (hy : IsReal y) : IsReal (x - y) := by
  obtain ⟨r, rfl⟩ := hx; obtain ⟨s, rfl⟩ := hy; exact ⟨r - s, (EReal.coe_sub r s).symm⟩

/-- A product of two real numbers is real. -/
theorem IsReal.mul {x y : EReal} (hx : IsReal x) (hy : IsReal y) : IsReal (x * y) := by
  obtain ⟨r, rfl⟩ := hx; obtain ⟨s, rfl⟩ := hy; exact ⟨r * s, (EReal.coe_mul r s).symm⟩

/-- The negation of a real number is real. -/
theorem IsReal.neg {x : EReal} (hx : IsReal x) : IsReal (-x) := by
  obtain ⟨r, rfl⟩ := hx; exact ⟨-r, (EReal.coe_neg r).symm⟩

/-- The larger of two real numbers is real. -/
theorem IsReal.max {x y : EReal} (hx : IsReal x) (hy : IsReal y) : IsReal (max x y) := by
  rcases max_choice x y with h | h <;> rw [h] <;> assumption

/-- The smaller of two real numbers is real. -/
theorem IsReal.min {x y : EReal} (hx : IsReal x) (hy : IsReal y) : IsReal (min x y) := by
  rcases min_choice x y with h | h <;> rw [h] <;> assumption

/-- A finite sum of real numbers is real. -/
theorem IsReal.sum {ι : Type} {s : Finset ι} {f : ι → EReal} (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- A sum of real numbers over a whole index type is real. -/
theorem IsReal.sum_univ {ι : Type} [Fintype ι] {f : ι → EReal} (h : ∀ i, IsReal (f i)) : IsReal (∑ i, f i) :=
  IsReal.sum fun i _ => h i

/-- The square root of a real number that is not negative. -/
theorem sqrt_coe {r : ℝ} (h : 0 ≤ r) : Ideal.sqrt (r : EReal) = (Real.sqrt r : EReal) :=
  if_neg (not_lt.mpr h)

/-- The square root of plus infinity. -/
theorem sqrt_top : Ideal.sqrt ⊤ = ⊤ := rfl

/-- The square root of a real number that is not negative is real. -/
theorem IsReal.sqrt {x : EReal} (hx : IsReal x) (h : 0 ≤ x) : IsReal (Ideal.sqrt x) := by
  obtain ⟨r, rfl⟩ := hx
  exact ⟨_, sqrt_coe (by exact_mod_cast h)⟩

/-- The exact square root is never negative, of a number that is not. -/
theorem sqrt_nonneg {x : EReal} (h : 0 ≤ x) : 0 ≤ Ideal.sqrt x := by
  induction x with
  | bot => exact absurd h (by simp)
  | top => exact le_top
  | coe r => rw [sqrt_coe (by exact_mod_cast h)]; exact_mod_cast Real.sqrt_nonneg r

/-- The exponential of a real number. -/
theorem exp_coe (r : ℝ) : Ideal.exp (r : EReal) = (Real.exp r : EReal) := rfl

/-- Division of real numbers, the divisor not zero. -/
theorem div_coe (r : ℝ) {s : ℝ} (h : s ≠ 0) : Ideal.div (r : EReal) (s : EReal) = ((r / s : ℝ) : EReal) := by
  unfold Ideal.div
  rw [if_neg (by exact_mod_cast h), div_eq_mul_inv, EReal.coe_mul, EReal.coe_inv]

/-- The exact square root keeps the order of numbers that are not negative. -/
theorem sqrt_lt {p q : EReal} (hp : 0 ≤ p) (hq : 0 ≤ q) : Ideal.sqrt p < Ideal.sqrt q ↔ p < q := by
  induction p with
  | bot => exact absurd hp (by simp)
  | top => rw [sqrt_top]; simp
  | coe p =>
    have hp' : 0 ≤ p := by exact_mod_cast hp
    rw [sqrt_coe hp']
    induction q with
    | bot => exact absurd hq (by simp)
    | top => rw [sqrt_top]; simp [EReal.coe_lt_top]
    | coe q =>
      have hq' : 0 ≤ q := by exact_mod_cast hq
      rw [sqrt_coe hq', EReal.coe_lt_coe_iff, EReal.coe_lt_coe_iff]
      exact Real.sqrt_lt_sqrt_iff hp'

/-- A 32-bit pattern whose exponent is not all ones denotes a real number. -/
theorem isReal_ofBits (b : BitVec 32) (h : (b.extractLsb' 23 8).toNat ≠ 255) : IsReal (Ideal.ofBits .f32 b) := by
  show IsReal (Ideal.ieee 8 23 b)
  unfold Ideal.ieee
  dsimp only
  rw [if_neg (show ¬ (b.extractLsb' 23 8).toNat = 2 ^ 8 - 1 from h)]
  split
  · exact ⟨_, rfl⟩
  · exact ⟨_, rfl⟩

/-- A 32-bit pattern with its sign clear and its exponent not all ones denotes no negative number. -/
theorem ofBits_nonneg (b : BitVec 32) (h : (b.extractLsb' 23 8).toNat ≠ 255) (h' : (b.extractLsb' 31 1 == 1#1) = false) :
    0 ≤ Ideal.ofBits .f32 b := by
  show 0 ≤ Ideal.ieee 8 23 b
  unfold Ideal.ieee
  dsimp only
  rw [if_neg (show ¬ (b.extractLsb' 23 8).toNat = 2 ^ 8 - 1 from h)]
  rw [show (BitVec.extractLsb' (8 + 23) 1 b == 1#1) = false from h']
  split
  · rw [← EReal.coe_zero, EReal.coe_le_coe_iff]; simp only [Bool.false_eq_true, if_false]; positivity
  · rw [← EReal.coe_zero, EReal.coe_le_coe_iff]; simp only [Bool.false_eq_true, if_false]; positivity

/-- Sixteen. -/
theorem ofBits_sixteen : Ideal.ofBits .f32 0x41800000#32 = ((16 : ℝ) : EReal) := by
  simp [Ideal.ofBits, Ideal.ieee, -EReal.coe_mul]; norm_num

/-- One sixteenth. -/
theorem ofBits_sixteenth : Ideal.ofBits .f32 0x3D800000#32 = ((1 / 16 : ℝ) : EReal) := by
  simp [Ideal.ofBits, Ideal.ieee, -EReal.coe_mul]; norm_num

/-- Minus infinity. -/
theorem ofBits_negInf : Ideal.ofBits .f32 0xFF800000#32 = (⊥ : EReal) := by
  simp [Ideal.ofBits, Ideal.ieee]

end Cert.Reals
-- ==== Proof.Same.lean ====
/-
  The kernel's form of the layer and the reference's are one function of real inputs: the nested polynomial is the sum of
  powers, a constant added to every score leaves the softmax, and a weighted sum of position codes is the position code's
  second layer on the weighted hidden layers.
-/
module

public import proofs.«01_k».proof.Proof.Fused
public import proofs.«01_k».proof.Proof.Reals

@[expose] public section

noncomputable section

namespace Cert.Same

open Idealize.ShloMosaic Cert.Reals

/-! ## The cosine and its inverse -/

/-- The lower end of the cosine's range. -/
theorem ofBits_lo : Ideal.ofBits .f32 0xBF7FFFEF#32 = ((-(16777199 / 16777216) : ℝ) : EReal) := by
  simp [Ideal.ofBits, Ideal.ieee, -EReal.coe_mul, -EReal.coe_neg]; norm_num

/-- The upper end of the cosine's range. -/
theorem ofBits_hi : Ideal.ofBits .f32 0x3F7FFFEF#32 = ((16777199 / 16777216 : ℝ) : EReal) := by
  simp [Ideal.ofBits, Ideal.ieee, -EReal.coe_mul]; norm_num

/-- The two ways of keeping the cosine in its range are one. -/
theorem ratio_eq (p p' v : Fin 3 → EReal) : Fused.ratio p p' v = Spec.ratio p p' v := by
  unfold Fused.ratio Spec.ratio
  rw [min_comm, max_comm]

/-- The cosine is a real number of magnitude at most one, whatever the normal. -/
theorem ratio_real (p p' v : Fin 3 → EReal) : ∃ r : ℝ, Spec.ratio p p' v = (r : EReal) ∧ |r| ≤ 1 := by
  unfold Spec.ratio
  rw [show (3212836847#32 : BitVec 32) = 0xBF7FFFEF#32 from rfl, show (1065353199#32 : BitVec 32) = 0x3F7FFFEF#32 from rfl, ofBits_lo, ofBits_hi]
  generalize Ideal.div _ _ = y
  have hu : min (max y ((-(16777199 / 16777216) : ℝ) : EReal)) ((16777199 / 16777216 : ℝ) : EReal) ≤ ((16777199 / 16777216 : ℝ) : EReal) := min_le_right _ _
  have hl : ((-(16777199 / 16777216) : ℝ) : EReal) ≤ min (max y ((-(16777199 / 16777216) : ℝ) : EReal)) ((16777199 / 16777216 : ℝ) : EReal) :=
    le_min (le_max_right _ _) (by rw [EReal.coe_le_coe_iff]; norm_num)
  generalize min (max y ((-(16777199 / 16777216) : ℝ) : EReal)) ((16777199 / 16777216 : ℝ) : EReal) = z at hu hl ⊢
  obtain ⟨r, rfl⟩ := isReal_of_ne (x := z) (ne_of_lt (lt_of_le_of_lt hu (EReal.coe_lt_top _))) (ne_of_gt (lt_of_lt_of_le (EReal.bot_lt_coe _) hl))
  rw [EReal.coe_le_coe_iff] at hu hl
  exact ⟨r, rfl, abs_le.mpr ⟨by linarith, by linarith⟩⟩

/-- The magnitude of a real number. -/
theorem mag_coe (r : ℝ) : Spec.mag (r : EReal) = ((|r| : ℝ) : EReal) := by
  show max (r : EReal) (-(r : EReal)) = _
  rw [← EReal.coe_neg, abs_eq_max_neg]
  exact (EReal.coe_strictMono.monotone.map_max).symm

/-- The nested polynomial is the sum of powers. -/
theorem horner_coe (r : ℝ) : Fused.horner (r : EReal) = Spec.powers (r : EReal) := by
  unfold Fused.horner Spec.powers
  rw [show (1070141402#32 : BitVec 32) = 0x3FC90FDA#32 from rfl, show (3193683914#32 : BitVec 32) = 0xBE5BBFCA#32 from rfl,
    show (1035352734#32 : BitVec 32) = 0x3DB63A9E#32 from rfl, show (3175973778#32 : BitVec 32) = 0xBD4D8392#32 from rfl,
    show (1023217912#32 : BitVec 32) = 0x3CFD10F8#32 from rfl, show (3163290726#32 : BitVec 32) = 0xBC8BFC66#32 from rfl,
    show (1004179653#32 : BitVec 32) = 0x3BDA90C5#32 from rfl, show (3131406892#32 : BitVec 32) = 0xBAA57A2C#32 from rfl]
  obtain ⟨c0, h0⟩ := isReal_ofBits 0x3FC90FDA#32 (by decide)
  obtain ⟨c1, h1⟩ := isReal_ofBits 0xBE5BBFCA#32 (by decide)
  obtain ⟨c2, h2⟩ := isReal_ofBits 0x3DB63A9E#32 (by decide)
  obtain ⟨c3, h3⟩ := isReal_ofBits 0xBD4D8392#32 (by decide)
  obtain ⟨c4, h4⟩ := isReal_ofBits 0x3CFD10F8#32 (by decide)
  obtain ⟨c5, h5⟩ := isReal_ofBits 0xBC8BFC66#32 (by decide)
  obtain ⟨c6, h6⟩ := isReal_ofBits 0x3BDA90C5#32 (by decide)
  obtain ⟨c7, h7⟩ := isReal_ofBits 0xBAA57A2C#32 (by decide)
  rw [h0, h1, h2, h3, h4, h5, h6, h7]
  simp only [← EReal.coe_mul, ← EReal.coe_add]
  exact congrArg _ (by ring)

/-- The sum of powers of a real number is real. -/
theorem powers_real (r : ℝ) : IsReal (Spec.powers (r : EReal)) := by
  have h := isReal_coe r
  unfold Spec.powers
  refine IsReal.add (IsReal.add (IsReal.add (IsReal.add (IsReal.add (IsReal.add (IsReal.add ?_ ?_) ?_) ?_) ?_) ?_) ?_) ?_
  · exact isReal_ofBits _ (by decide)
  · exact (isReal_ofBits _ (by decide)).mul h
  · exact (isReal_ofBits _ (by decide)).mul (h.mul h)
  · exact (isReal_ofBits _ (by decide)).mul ((h.mul h).mul h)
  · exact (isReal_ofBits _ (by decide)).mul (((h.mul h).mul h).mul h)
  · exact (isReal_ofBits _ (by decide)).mul ((((h.mul h).mul h).mul h).mul h)
  · exact (isReal_ofBits _ (by decide)).mul (((((h.mul h).mul h).mul h).mul h).mul h)
  · exact (isReal_ofBits _ (by decide)).mul ((((((h.mul h).mul h).mul h).mul h).mul h).mul h)

/-- The root's argument of a cosine is not negative. -/
theorem one_sub_mag {r : ℝ} (h : |r| ≤ 1) : 1 - Spec.mag (r : EReal) = ((1 - |r| : ℝ) : EReal) ∧ (0 : EReal) ≤ 1 - Spec.mag (r : EReal) := by
  have e : 1 - Spec.mag (r : EReal) = ((1 - |r| : ℝ) : EReal) := by rw [mag_coe, EReal.coe_sub, EReal.coe_one]
  refine ⟨e, ?_⟩
  rw [e, ← EReal.coe_zero, EReal.coe_le_coe_iff]
  linarith

/-- The two inverse cosines agree on a cosine. -/
theorem arccos_eq {r : ℝ} (h : |r| ≤ 1) : Fused.arccos (r : EReal) = Spec.arccos (r : EReal) := by
  unfold Fused.arccos Spec.arccos
  rw [max_eq_left (one_sub_mag h).2, mag_coe, horner_coe]

/-- The inverse cosine of a cosine is real. -/
theorem arccos_real {r : ℝ} (h : |r| ≤ 1) : IsReal (Spec.arccos (r : EReal)) := by
  have e : IsReal (Ideal.sqrt (1 - Spec.mag (r : EReal)) * Spec.powers (Spec.mag (r : EReal))) :=
    (IsReal.sqrt ⟨_, (one_sub_mag h).1⟩ (one_sub_mag h).2).mul (by rw [mag_coe]; exact powers_real _)
  unfold Spec.arccos
  split
  · exact (isReal_ofBits _ (by decide)).sub e
  · exact e

/-- The distance of two real points is real. -/
theorem radial_real {p p' : Fin 3 → EReal} (hp : ∀ c, IsReal (p c)) (hp' : ∀ c, IsReal (p' c)) : IsReal (Spec.radial p p') := by
  refine IsReal.sqrt ((IsReal.sum_univ fun c => ((hp c).sub (hp' c)).mul ((hp c).sub (hp' c))).add (isReal_ofBits _ (by decide))) ?_
  refine add_nonneg (Finset.sum_nonneg fun c _ => ?_) (ofBits_nonneg _ (by decide) (by decide))
  obtain ⟨r, hr⟩ := (hp c).sub (hp' c)
  rw [hr, ← EReal.coe_mul, ← EReal.coe_zero, EReal.coe_le_coe_iff]
  exact mul_self_nonneg r

/-- The two hidden layers are one. -/
theorem inner_eq (W : Fin 256 → Fin 2 → EReal) (b : Fin 256 → EReal) (p p' v : Fin 3 → EReal) :
    Fused.inner W b p p' v = Spec.inner W b p p' v := by
  obtain ⟨r, hr, h⟩ := ratio_real p p' v
  funext o
  unfold Fused.inner Spec.inner
  rw [ratio_eq, hr, arccos_eq h]

/-- The hidden layer is real: the positions and the weights are, and the cosine is. -/
theorem inner_real {W : Fin 256 → Fin 2 → EReal} {b : Fin 256 → EReal} {p p' : Fin 3 → EReal} (v : Fin 3 → EReal)
    (hW : ∀ o t, IsReal (W o t)) (hb : ∀ o, IsReal (b o)) (hp : ∀ c, IsReal (p c)) (hp' : ∀ c, IsReal (p' c)) (o : Fin 256) :
    IsReal (Spec.inner W b p p' v o) := by
  obtain ⟨r, hr, h⟩ := ratio_real p p' v
  unfold Spec.inner Spec.hidden
  rw [hr]
  exact ((((radial_real hp hp').mul (hW o 0)).add ((arccos_real h).mul (hW o 1))).add (hb o)).max isReal_zero

/-- Two dense layers of real numbers are real. -/
theorem mlp_real {W1 : Fin 256 → Fin 256 → EReal} {b1 : Fin 256 → EReal} {W2 : Fin 256 → Fin 256 → EReal} {b2 x : Fin 256 → EReal}
    (h1 : ∀ o i, IsReal (W1 o i)) (hb1 : ∀ o, IsReal (b1 o)) (h2 : ∀ o i, IsReal (W2 o i)) (hb2 : ∀ o, IsReal (b2 o)) (hx : ∀ i, IsReal (x i))
    (o : Fin 256) : IsReal (Spec.mlp W1 b1 W2 b2 x o) :=
  (IsReal.sum_univ fun k => (((IsReal.sum_univ fun i => (hx i).mul (h1 k i)).add (hb1 k)).max isReal_zero).mul (h2 o k)).add (hb2 o)

/-! ## The softmax -/

/-- The largest of sixteen real scores is one of them. -/
theorem top_coe (s : Fin 16 → ℝ) : ∃ k, Spec.top (fun j => (s j : EReal)) = (s k : EReal) ∧ ∀ j, s j ≤ s k := by
  obtain ⟨k, -, hk⟩ := Finset.exists_max_image (Finset.univ : Finset (Fin 16)) s ⟨0, Finset.mem_univ _⟩
  refine ⟨k, ?_, fun j => hk j (Finset.mem_univ j)⟩
  unfold Spec.top
  rw [ofBits_negInf]
  refine le_antisymm (Finset.fold_max_le _ |>.mpr ⟨bot_le, fun j hj => by rw [EReal.coe_le_coe_iff]; exact hk j hj⟩) ?_
  exact Finset.le_fold_max _ |>.mpr (.inr ⟨k, Finset.mem_univ _, le_rfl⟩)

/-- The softmax of real scores, over the reals. -/
def soft (s : Fin 16 → ℝ) (k : Fin 16) (j : Fin 16) : ℝ := Real.exp (s j - s k) / ∑ i, Real.exp (s i - s k)

/-- The sum below it. -/
theorem soft_pos (s : Fin 16 → ℝ) (k : Fin 16) : 0 < ∑ i, Real.exp (s i - s k) :=
  Finset.sum_pos (fun _ _ => Real.exp_pos _) ⟨0, Finset.mem_univ _⟩

/-- A sum of real numbers, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The softmax of real scores, at an index of the largest. -/
theorem quotient_coe (s : Fin 16 → ℝ) (k j : Fin 16) :
    Ideal.div (Ideal.exp ((s j : EReal) - (s k : EReal))) (∑ i, Ideal.exp ((s i : EReal) - (s k : EReal))) = (soft s k j : EReal) := by
  simp only [← EReal.coe_sub, exp_coe]
  rw [← coe_sum, div_coe _ (soft_pos s k).ne']
  rfl

/-- The weights of real scores, and of the same scores with a constant added. -/
theorem weight_coe (s : Fin 16 → ℝ) (C : ℝ) : ∃ k, ∀ j, Fused.weight (fun j => (s j : EReal)) j = (soft s k j : EReal)
    ∧ Spec.weight (fun j => ((s j + C : ℝ) : EReal)) j = (soft s k j : EReal) := by
  obtain ⟨k, hk, hm⟩ := top_coe s
  obtain ⟨k', hk', hm'⟩ := top_coe fun j => s j + C
  have e : s k' = s k := le_antisymm (hm k') (by have := hm' k; linarith)
  refine ⟨k, fun j => ⟨?_, ?_⟩⟩
  · unfold Fused.weight
    rw [hk]
    exact quotient_coe s k j
  · unfold Spec.weight
    rw [hk', ofBits_negInf, max_eq_right bot_le]
    refine (quotient_coe (fun j => s j + C) k' j).trans (congrArg _ ?_)
    unfold soft
    simp only [add_sub_add_right_eq_sub, e]

/-- The weights sum to one. -/
theorem soft_sum (s : Fin 16 → ℝ) (k : Fin 16) : ∑ j, soft s k j = 1 := by
  unfold soft
  rw [← Finset.sum_div, div_self (soft_pos s k).ne']

/-- No weight is negative. -/
theorem soft_nonneg (s : Fin 16 → ℝ) (k j : Fin 16) : 0 ≤ soft s k j := div_nonneg (Real.exp_pos _).le (soft_pos s k).le

/-! ## The scores and the weighted sum -/

/-- The two scores differ by a constant: the query against the position code's bias. -/
theorem score_eq (q : Fin 256 → ℝ) (key hid : Fin 16 → Fin 256 → ℝ) (W : Fin 256 → Fin 256 → ℝ) (b : Fin 256 → ℝ) :
    ∃ (s : Fin 16 → ℝ) (C : ℝ), (∀ j, Fused.score (fun x => (q x : EReal)) (fun o => ∑ k, (q k : EReal) * (W k o : EReal)) (fun j x => (key j x : EReal))
        (fun j x => (hid j x : EReal)) j = (s j : EReal))
      ∧ ∀ j, Spec.score (fun x => (q x : EReal)) (fun j x => (key j x : EReal))
          (fun j => Spec.dense (fun o k => (W o k : EReal)) (fun o => (b o : EReal)) (fun x => (hid j x : EReal))) j = ((s j + C : ℝ) : EReal) := by
  refine ⟨fun j => (∑ x, q x * key j x + ∑ o, (∑ k, q k * W k o) * hid j o) * (1 / 16), (∑ x, q x * b x) / 16, fun j => ?_, fun j => ?_⟩
  · unfold Fused.score
    rw [ofBits_sixteenth]
    simp only [EReal.coe_mul, EReal.coe_add, coe_sum]
  · unfold Spec.score Spec.dense
    rw [ofBits_sixteen]
    have e : (∑ x, (q x : EReal) * ((key j x : EReal) + (∑ k, (hid j k : EReal) * (W x k : EReal) + (b x : EReal))))
        = ((∑ x, q x * (key j x + (∑ k, hid j k * W x k + b x)) : ℝ) : EReal) := by
      simp only [EReal.coe_mul, EReal.coe_add, coe_sum]
    rw [e, div_coe _ (by norm_num)]
    refine congrArg _ ?_
    have e2 : ∑ o, (∑ k, q k * W k o) * hid j o = ∑ x, q x * ∑ k, hid j k * W x k := by
      simp only [Finset.sum_mul, Finset.mul_sum]
      rw [Finset.sum_comm]
      exact Finset.sum_congr rfl fun x _ => Finset.sum_congr rfl fun k _ => by ring
    show _ = (∑ x, q x * key j x + ∑ o, (∑ k, q k * W k o) * hid j o) * (1 / 16) + (∑ x, q x * b x) / 16
    rw [e2]
    simp only [mul_add, Finset.sum_add_distrib]
    ring

/-- The mean of sixteen equal numbers. -/
theorem mean_of_equal (S : EReal) : Ideal.div (∑ _x : Fin 16, S) (Ideal.ofBits .f32 0x41800000#32) = S := by
  rw [ofBits_sixteen, Finset.sum_const, Finset.card_univ, Fintype.card_fin]
  unfold Ideal.div
  rw [if_neg (by rw [← EReal.coe_zero, EReal.coe_eq_coe_iff]; norm_num), ← EReal.coe_inv]
  have e : (16 • S : EReal) = ((16 : ℝ) : EReal) * S := by
    rw [EReal.nsmul_eq_mul]; norm_cast
  rw [e, mul_comm, ← mul_assoc, ← EReal.coe_mul, inv_mul_cancel₀ (by norm_num), EReal.coe_one, one_mul]

/-- The weighted sum of values and position codes. -/
theorem attend_eq (a : Fin 16 → ℝ) (ha : ∀ j, 0 ≤ a j) (h1 : ∑ j, a j = 1) (val : Fin 16 → Fin 256 → EReal) (hid : Fin 16 → Fin 256 → ℝ)
    (W : Fin 256 → Fin 256 → ℝ) (b : Fin 256 → ℝ) (o : Fin 256) :
    ∑ j, (a j : EReal) * (val j o + Spec.dense (fun o k => (W o k : EReal)) (fun o => (b o : EReal)) (fun x => (hid j x : EReal)) o)
      = ∑ j, (a j : EReal) * val j o + ∑ k, (∑ j, (a j : EReal) * (hid j k : EReal)) * (W o k : EReal) + (b o : EReal) := by
  have e : ∀ j, (a j : EReal) * (val j o + Spec.dense (fun o k => (W o k : EReal)) (fun o => (b o : EReal)) (fun x => (hid j x : EReal)) o)
      = (a j : EReal) * val j o + (a j : EReal) * Spec.dense (fun o k => (W o k : EReal)) (fun o => (b o : EReal)) (fun x => (hid j x : EReal)) o :=
    fun j => EReal.left_distrib_of_nonneg_of_ne_top (by exact_mod_cast ha j) (EReal.coe_ne_top _) _ _
  rw [Finset.sum_congr rfl fun j _ => e j, Finset.sum_add_distrib, add_assoc]
  refine congrArg _ ?_
  unfold Spec.dense
  have e1 : ∑ j, (a j : EReal) * (∑ k, (hid j k : EReal) * (W o k : EReal) + (b o : EReal))
      = ((∑ j, a j * (∑ k, hid j k * W o k + b o) : ℝ) : EReal) := by
    simp only [EReal.coe_mul, EReal.coe_add, coe_sum]
  have e2 : ∑ k, (∑ j, (a j : EReal) * (hid j k : EReal)) * (W o k : EReal) + (b o : EReal)
      = ((∑ k, (∑ j, a j * hid j k) * W o k + b o : ℝ) : EReal) := by
    simp only [EReal.coe_mul, EReal.coe_add, coe_sum]
  rw [e1, e2]
  refine congrArg _ ?_
  simp only [mul_add, Finset.sum_add_distrib, ← Finset.sum_mul, h1, one_mul]
  refine congrArg (· + b o) ?_
  simp only [Finset.sum_mul, Finset.mul_sum]
  rw [Finset.sum_comm]
  exact Finset.sum_congr rfl fun x _ => Finset.sum_congr rfl fun k _ => by ring

/-- The kernel's row is the reference's. -/
theorem row_eq {Wp : Fin 256 → Fin 256 → EReal} {bp : Fin 256 → EReal} (W1 : Fin 256 → Fin 256 → EReal) (b1 : Fin 256 → EReal)
    (W2 : Fin 256 → Fin 256 → EReal) (b2 : Fin 256 → EReal) {q : Fin 256 → EReal} {key hid : Fin 16 → Fin 256 → EReal} (val : Fin 16 → Fin 256 → EReal)
    (hW : ∀ o k, IsReal (Wp o k)) (hb : ∀ o, IsReal (bp o)) (hq : ∀ x, IsReal (q x)) (hkey : ∀ j x, IsReal (key j x)) (hhid : ∀ j x, IsReal (hid j x)) :
    Fused.row Wp bp W1 b1 W2 b2 q (fun o => ∑ k, q k * Wp k o) key val hid
      = Spec.row W1 b1 W2 b2 q key val (fun j => Spec.dense Wp bp (hid j)) := by
  choose Wr eW using hW
  choose br eb using hb
  choose qr eq using hq
  choose kr ek using hkey
  choose hr eh using hhid
  obtain rfl : Wp = fun o k => (Wr o k : EReal) := funext fun o => funext fun k => eW o k
  obtain rfl : bp = fun o => (br o : EReal) := funext fun o => eb o
  obtain rfl : q = fun x => (qr x : EReal) := funext fun x => eq x
  obtain rfl : key = fun j x => (kr j x : EReal) := funext fun j => funext fun x => ek j x
  obtain rfl : hid = fun j x => (hr j x : EReal) := funext fun j => funext fun x => eh j x
  obtain ⟨s, C, hf, hs⟩ := score_eq qr kr hr Wr br
  obtain ⟨k, hw⟩ := weight_coe s C
  funext o
  unfold Fused.row Spec.row
  refine congrArg (fun f => Spec.mlp W1 b1 W2 b2 f o + _) (funext fun x => ?_)
  unfold Fused.attend Spec.attend
  rw [mean_of_equal, funext hf, funext hs]
  simp only [(hw _).1, (hw _).2]
  exact (attend_eq (soft s k) (soft_nonneg s k) (soft_sum s k) val hr Wr br x).symm

/-! ## A row with an infinite entry -/

/-- A sum with a term minus infinity is minus infinity. -/
theorem sum_bot {y : Fin 256 → EReal} {o : Fin 256} (h : y o = ⊥) : ∑ x, y x = ⊥ := by
  rw [← Finset.add_sum_erase Finset.univ y (Finset.mem_univ o), h, EReal.bot_add]

/-- A sum with no term minus infinity is not minus infinity. -/
theorem sum_ne_bot {ι : Type} {t : Finset ι} {y : ι → EReal} (h : ∀ x ∈ t, y x ≠ ⊥) : ∑ x ∈ t, y x ≠ ⊥ := by
  classical
  induction t using Finset.induction_on with
  | empty => simp
  | insert a t ha ih =>
    rw [Finset.sum_insert ha]
    exact EReal.add_ne_bot_iff.mpr ⟨h a (Finset.mem_insert_self a t), ih fun x hx => h x (Finset.mem_insert_of_mem hx)⟩

/-- A sum with a term plus infinity and none minus infinity is plus infinity. -/
theorem sum_top {y : Fin 256 → EReal} {o : Fin 256} (h : y o = ⊤) (hb : ∀ x, y x ≠ ⊥) : ∑ x, y x = ⊤ := by
  rw [← Finset.add_sum_erase Finset.univ y (Finset.mem_univ o), h]
  exact EReal.top_add_of_ne_bot (sum_ne_bot fun x _ => hb x)

/-- The width of a row. -/
theorem ofBits_width : Ideal.ofBits .f32 0x43800000#32 = ((256 : ℝ) : EReal) := by
  simp [Ideal.ofBits, Ideal.ieee, -EReal.coe_mul]; norm_num

/-- Plus infinity over the width of a row. -/
theorem div_top : Ideal.div ⊤ (Ideal.ofBits .f32 0x43800000#32) = ⊤ := by
  rw [ofBits_width]
  unfold Ideal.div
  rw [if_neg (by rw [← EReal.coe_zero, EReal.coe_eq_coe_iff]; norm_num), ← EReal.coe_inv]
  exact EReal.top_mul_coe_of_pos (by norm_num)

/-- Minus infinity over the width of a row. -/
theorem div_bot : Ideal.div ⊥ (Ideal.ofBits .f32 0x43800000#32) = ⊥ := by
  rw [ofBits_width]
  unfold Ideal.div
  rw [if_neg (by rw [← EReal.coe_zero, EReal.coe_eq_coe_iff]; norm_num), ← EReal.coe_inv]
  exact EReal.bot_mul_coe_of_pos (by norm_num)

/-- A row whose every entry is infinitely far from its mean normalises to its shift. -/
theorem norm_far {y : Fin 256 → EReal} (g b : Fin 256 → EReal) (h : ∀ x, y x - Spec.mean y = ⊤ ∨ y x - Spec.mean y = ⊥) (o : Fin 256) :
    Spec.norm y g b o = b o := by
  have hs : ∀ x, (y x - Spec.mean y) * (y x - Spec.mean y) = ⊤ := fun x => by
    rcases h x with e | e <;> rw [e]
    · exact EReal.top_mul_top
    · exact EReal.bot_mul_bot
  have e1 : ∑ x, (y x - Spec.mean y) * (y x - Spec.mean y) = ⊤ := sum_top (o := o) (hs o) fun x => by rw [hs x]; exact top_ne_bot
  unfold Spec.norm
  rw [e1, div_top, EReal.top_add_of_ne_bot (isReal_ofBits _ (by decide)).ne_bot, sqrt_top]
  unfold Ideal.div
  rw [if_neg EReal.top_ne_zero, EReal.inv_top, mul_zero, zero_mul, zero_add]

/-- A row with an infinite entry normalises to its shift. -/
theorem norm_infinite {y : Fin 256 → EReal} (g b : Fin 256 → EReal) {k : Fin 256} (hk : ¬ IsReal (y k)) (o : Fin 256) :
    Spec.norm y g b o = b o := by
  by_cases hb : ∃ x, y x = ⊥
  · obtain ⟨x, hx⟩ := hb
    have hm : Spec.mean y = ⊥ := by unfold Spec.mean; rw [sum_bot hx, div_bot]
    refine norm_far g b (fun z => ?_) o
    rw [hm, sub_eq_add_neg, EReal.neg_bot]
    by_cases hz : y z = ⊥
    · exact .inr (by rw [hz, EReal.bot_add])
    · exact .inl (EReal.add_top_of_ne_bot hz)
  · have hb : ∀ x, y x ≠ ⊥ := fun x hx => hb ⟨x, hx⟩
    have ht : y k = ⊤ := by
      by_contra h
      exact hk (isReal_of_ne h (hb k))
    have hm : Spec.mean y = ⊤ := by unfold Spec.mean; rw [sum_top ht hb, div_top]
    refine norm_far g b (fun z => .inr ?_) o
    rw [hm, sub_eq_add_neg, EReal.neg_top, EReal.add_bot]

/-- A sum with an infinite second term is infinite. -/
theorem add_infinite (x : EReal) {y : EReal} (h : ¬ IsReal y) : ¬ IsReal (x + y) := by
  intro hs
  have hy : y ≠ ⊥ := fun e => hs.ne_bot (by rw [e, EReal.add_bot])
  have hx : x ≠ ⊥ := fun e => hs.ne_bot (by rw [e, EReal.bot_add])
  have ht : y ≠ ⊤ := fun e => hs.ne_top (by rw [e, EReal.add_top_of_ne_bot hx])
  exact h (isReal_of_ne ht hy)

/-- The kernel's normalised row is the reference's, whatever the query: a row with an infinite query is its shift on both
    sides. -/
theorem norm_row_eq {Wp : Fin 256 → Fin 256 → EReal} {bp : Fin 256 → EReal} (W1 : Fin 256 → Fin 256 → EReal) (b1 : Fin 256 → EReal)
    (W2 : Fin 256 → Fin 256 → EReal) (b2 : Fin 256 → EReal) (q : Fin 256 → EReal) {key hid : Fin 16 → Fin 256 → EReal} (val : Fin 16 → Fin 256 → EReal)
    (hW : ∀ o k, IsReal (Wp o k)) (hb : ∀ o, IsReal (bp o)) (hkey : ∀ j x, IsReal (key j x)) (hhid : ∀ j x, IsReal (hid j x))
    (g b : Fin 256 → EReal) (o : Fin 256) :
    Spec.norm (Fused.row Wp bp W1 b1 W2 b2 q (fun o => ∑ k, q k * Wp k o) key val hid) g b o
      = Spec.norm (Spec.row W1 b1 W2 b2 q key val (fun j => Spec.dense Wp bp (hid j))) g b o := by
  by_cases hq : ∀ x, IsReal (q x)
  · rw [row_eq W1 b1 W2 b2 val hW hb hq hkey hhid]
  · obtain ⟨k, hk⟩ := not_forall.mp hq
    rw [norm_infinite (k := k) g b (add_infinite _ hk), norm_infinite (k := k) g b (add_infinite _ hk)]

end Cert.Same
-- ==== Proof.RefRead.lean ====
/-
  The reference's arrays read at an index, stage by stage, as the plain functions of Spec.
-/
module

public import proofs.«01_k».proof.Proof.Gen.ReferenceIdeal.Read
public import proofs.«01_k».proof.Proof.Spec
public import Idealize.ShloMosaic.Lib.Pointwise

@[expose] public section

noncomputable section

namespace Cert.ReferenceIdeal.Read

open Idealize.ShloMosaic Cert.ReferenceIdeal.Gen

/-- An array of 32-bit floats of the exact reference. -/
abbrev Arr (S : Shape) : Type := (⟨S, EltTy.f32⟩ : BufTy).Contents (Elt Ideal)

/-- The squared distances. -/
theorem v12_at (x1 : Arr S4x2048x3) (b : Fin 4) (n j : Fin 2048) :
    val_main_v12 (F := Ideal) x1 (ix3 b n j) = Spec.dist (fun n c => x1 (ix3 b n c)) n j := by
  pointwise [val_main_v12, val_main_v11, val_main_cst_1, val_main_v10, val_main_v9, val_main_v8, val_main_cst_0, val_main_v7, val_main_v6, val_main_v5, val_main_v4, val_main_v3, val_main_v2, val_main_v1, val_main_cst, val_main_v0]
  rfl

/-- The array the neighbours are taken from: minus the distance where the mask is not zero. -/
theorem v17_at (x1 : Arr S4x2048x3) (x3 : Arr S4x2048x2048) (b : Fin 4) (n j : Fin 2048) (h : x3 (ix3 b n j) ≠ (0 : EReal)) :
    val_main_v17 (F := Ideal) x1 x3 (ix3 b n j) = -Ideal.sqrt (Spec.dist (fun n c => x1 (ix3 b n c)) n j) := by
  rw [← v12_at]
  pointwise [val_main_v17, val_main_v16, val_main_v15, val_main_v14, val_main_cst_2, val_main_v13]
  exact congrArg Neg.neg (if_neg h)

/-- The queries. -/
theorem v27_at (x0 : Arr S4x2048x256) (x4 : Arr S256x256) (x5 : Arr S256) (x6 : Arr S256x256) (x7 : Arr S256) (b : Fin 4) (n : Fin 2048) (o : Fin 256) :
    val_main_v27 (F := Ideal) x0 x4 x5 x6 x7 (ix3 b n o)
      = Spec.mlp (fun o i => x4 (ix2 o i)) (fun o => x5 (ix1 o)) (fun o i => x6 (ix2 o i)) (fun o => x7 (ix1 o)) (fun i => x0 (ix3 b n i)) o := by
  pointwise [val_main_v27, val_main_v26, val_main_v25, val_main_v24, val_main_v23, val_main_v22, val_main_cst_4, val_main_v21, val_main_v20, val_main_v19, val_main_v18]
  rfl

/-- The keys. -/
theorem v37_at (x0 : Arr S4x2048x256) (x4 : Arr S256x256) (x5 : Arr S256) (x6 : Arr S256x256) (x7 : Arr S256) (b : Fin 4) (n : Fin 2048) (o : Fin 256) :
    val_main_v37 (F := Ideal) x0 x4 x5 x6 x7 (ix3 b n o)
      = Spec.mlp (fun o i => x4 (ix2 o i)) (fun o => x5 (ix1 o)) (fun o i => x6 (ix2 o i)) (fun o => x7 (ix1 o)) (fun i => x0 (ix3 b n i)) o := by
  pointwise [val_main_v37, val_main_v36, val_main_v35, val_main_v34, val_main_v33, val_main_v32, val_main_cst_5, val_main_v31, val_main_v30, val_main_v29, val_main_v28]
  rfl

/-- The values. -/
theorem v47_at (x0 : Arr S4x2048x256) (x4 : Arr S256x256) (x5 : Arr S256) (x6 : Arr S256x256) (x7 : Arr S256) (b : Fin 4) (n : Fin 2048) (o : Fin 256) :
    val_main_v47 (F := Ideal) x0 x4 x5 x6 x7 (ix3 b n o)
      = Spec.mlp (fun o i => x4 (ix2 o i)) (fun o => x5 (ix1 o)) (fun o i => x6 (ix2 o i)) (fun o => x7 (ix1 o)) (fun i => x0 (ix3 b n i)) o := by
  pointwise [val_main_v47, val_main_v46, val_main_v45, val_main_v44, val_main_v43, val_main_v42, val_main_cst_6, val_main_v41, val_main_v40, val_main_v39, val_main_v38]
  rfl

/-- The unit normals. -/
theorem v79_at (x2 : Arr S4x2048x3) (b : Fin 4) (n : Fin 2048) (c : Fin 3) :
    val_main_v79 (F := Ideal) x2 (ix3 b n c) = Spec.unit (fun c => x2 (ix3 b n c)) c := by
  pointwise [val_main_v72, val_main_v73, val_main_v74, val_main_v75, val_main_v76, val_main_v77, val_main_v78, val_main_v79, val_main_cst_12, val_main_cst_13, val_main_cst_14]
  rfl

/-- The distances to the neighbours, from the neighbours' positions. -/
theorem v85_at (x1 : Arr S4x2048x3) (x3 : Arr S4x2048x2048) (b : Fin 4) (n : Fin 2048) (k : Fin 16) :
    val_main_v85 (F := Ideal) x1 x3 (ix4 b n k 0) = Spec.radial (fun c => x1 (ix3 b n c)) (fun c => val_main_v68 (F := Ideal) x1 x3 (ix4 b n k c)) := by
  pointwise [val_main_v71, val_main_v70, val_main_v69, val_main_v80, val_main_v81, val_main_v82, val_main_v83, val_main_v84, val_main_v85, val_main_cst_14, val_main_cst_15]
  rfl

/-- The clipped cosines. -/
theorem v97_at (x1 x2 : Arr S4x2048x3) (x3 : Arr S4x2048x2048) (b : Fin 4) (n : Fin 2048) (k : Fin 16) :
    val_main_v97 (F := Ideal) x1 x2 x3 (ix4 b n k 0)
      = Spec.ratio (fun c => x1 (ix3 b n c)) (fun c => val_main_v68 (F := Ideal) x1 x3 (ix4 b n k c)) (fun c => x2 (ix3 b n c)) := by
  unfold Spec.ratio
  simp only [← v79_at, ← v85_at]
  pointwise [val_main_v71, val_main_v70, val_main_v69, val_main_cst_16, val_main_cst_17, val_main_cst_18, val_main_cst_19, val_main_v86, val_main_v87, val_main_v88, val_main_v89, val_main_v90, val_main_v91, val_main_v92, val_main_v93, val_main_v94, val_main_v95, val_main_v96, val_main_v97]

/-- The angles. -/
theorem v136_at (x1 x2 : Arr S4x2048x3) (x3 : Arr S4x2048x2048) (b : Fin 4) (n : Fin 2048) (k : Fin 16) :
    val_main_v136 (F := Ideal) x1 x2 x3 (ix4 b n k 0) = Spec.arccos (val_main_v97 (F := Ideal) x1 x2 x3 (ix4 b n k 0)) := by
  pointwise [val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_cst_20, val_main_cst_21, val_main_cst_22, val_main_cst_23, val_main_cst_24, val_main_cst_25, val_main_cst_26, val_main_cst_27, val_main_cst_28, val_main_cst_29, val_main_cst_30]
  rfl

/-- The position codes. -/
theorem v147_at (x1 x2 : Arr S4x2048x3) (x3 : Arr S4x2048x2048) (x16 : Arr S256x2) (x17 : Arr S256) (x18 : Arr S256x256) (x19 : Arr S256)
    (b : Fin 4) (n : Fin 2048) (k : Fin 16) (o : Fin 256) :
    val_main_v147 (F := Ideal) x1 x2 x3 x16 x17 x18 x19 (ix4 b n k o)
      = Spec.dense (fun o i => x18 (ix2 o i)) (fun o => x19 (ix1 o))
          (Spec.hidden (fun o i => x16 (ix2 o i)) (fun o => x17 (ix1 o)) (val_main_v85 (F := Ideal) x1 x3 (ix4 b n k 0))
            (val_main_v136 (F := Ideal) x1 x2 x3 (ix4 b n k 0))) o := by
  pointwise [val_main_v137, val_main_v138, val_main_v139, val_main_v140, val_main_v141, val_main_v142, val_main_v143, val_main_v144, val_main_v145, val_main_v146, val_main_v147, val_main_cst_31]
  simp only [Finset.sum_const, Finset.card_univ, Fintype.card_fin, one_smul]
  rfl

end Cert.ReferenceIdeal.Read
-- ==== Proof.RefNear.lean ====
/-
  The reference's neighbours: the indices its top-k leaves, and the rows gathered at them.
-/
module

public import proofs.«01_k».proof.Proof.RefRead
public import proofs.«01_k».proof.Proof.Reals
public import Idealize.ShloMosaic.Lib.WordArith

@[expose] public section

noncomputable section

namespace Cert.ReferenceIdeal.Read

open Idealize.ShloMosaic Cert.ReferenceIdeal.Gen

/-- A gather of rows of width 256: the row at the index's word. -/
theorem gather256_at (x : Arr S4x2048x256) (idx : IVec S4x2048x16x1 32) (b : Fin 4) (n : Fin 2048) (k : Fin 16) (c : Fin 256) (j : Fin 2048)
    (h : idx (ix4 b n k 0) = BitVec.ofNat 32 j.val) :
    Host.gather gather_S4x2048x256_S4x2048x16x1_S4x2048x16x256_3_1_0_0_1_3_11256 x idx (ix4 b n k c) = x (ix3 b j c) := by
  have hj := j.isLt
  refine congrArg x (funext fun a => Fin.ext ?_)
  match a with
  | ⟨0, _⟩ => show 0 + b.val + 0 = b.val; omega
  | ⟨1, _⟩ =>
    show min (idx (GatherDims.siIdx _ (ix4 b n k c) _)).toInt.toNat (2048 - 1) + 0 + 0 = j.val
    rw [show GatherDims.siIdx _ (ix4 b n k c) _ = ix4 b n k (0 : Fin 1) from funext fun a => Fin.ext (by fin_cases a <;> rfl), h, WordArith.toInt_ofNat_small _ (by omega)]
    omega
  | ⟨2, _⟩ => show 0 + 0 + c.val = c.val; omega

/-- A gather of rows of width 3: the row at the index's word. -/
theorem gather3_at (x : Arr S4x2048x3) (idx : IVec S4x2048x16x1 32) (b : Fin 4) (n : Fin 2048) (k : Fin 16) (c : Fin 3) (j : Fin 2048)
    (h : idx (ix4 b n k 0) = BitVec.ofNat 32 j.val) :
    Host.gather gather_S4x2048x3_S4x2048x16x1_S4x2048x16x3_3_1_0_0_1_3_113 x idx (ix4 b n k c) = x (ix3 b j c) := by
  have hj := j.isLt
  refine congrArg x (funext fun a => Fin.ext ?_)
  match a with
  | ⟨0, _⟩ => show 0 + b.val + 0 = b.val; omega
  | ⟨1, _⟩ =>
    show min (idx (GatherDims.siIdx _ (ix4 b n k c) _)).toInt.toNat (2048 - 1) + 0 + 0 = j.val
    rw [show GatherDims.siIdx _ (ix4 b n k c) _ = ix4 b n k (0 : Fin 1) from funext fun a => Fin.ext (by fin_cases a <;> rfl), h, WordArith.toInt_ofNat_small _ (by omega)]
    omega
  | ⟨2, _⟩ => show 0 + 0 + c.val = c.val; omega

/-- The index at a place of the top-k, as a place of the sorting permutation of its row. -/
theorem indices_sorted (x1 : Arr S4x2048x3) (x3 : Arr S4x2048x2048) (b : Fin 4) (n : Fin 2048) (k : Fin 16) :
    val_main_indices (F := Ideal) x1 x3 (ix3 b n k)
      = BitVec.ofNat 32 (sortedFrom (fun i j : Fin 2048 => Ideal.cmpTotal .gt (val_main_v17 (F := Ideal) x1 x3 (ix3 b n i)) (val_main_v17 (F := Ideal) x1 x3 (ix3 b n j)) == 1#1) (k.castLE (by decide))).val := by
  unfold val_main_indices
  generalize val_main_v17 (F := Ideal) x1 x3 = y
  have e : ∀ (j : S4x2048x2048.Idx) (i : Fin 2048), j 0 = b → j 1 = n → j.along (2 : Fin 3) i = ix3 b n i := fun j i h0 h1 => by
    funext a
    match a with
    | ⟨0, _⟩ => exact h0
    | ⟨1, _⟩ => exact h1
    | ⟨2, _⟩ => exact Function.update_self _ _ _
  have key : ∀ (j : S4x2048x2048.Idx), j 0 = b → j 1 = n → j 2 = (k.castLE (by decide) : Fin 2048) →
      iotaInDim S4x2048x2048 32 (2 : Fin 3) (j.along (2 : Fin 3) (sortedFrom (fun i i' : Fin 2048 =>
        Ideal.cmpTotal .gt (y (j.along (2 : Fin 3) i)) (y (j.along (2 : Fin 3) i')) == 1#1) (j 2)))
      = BitVec.ofNat 32 (sortedFrom (fun i i' : Fin 2048 => Ideal.cmpTotal .gt (y (ix3 b n i)) (y (ix3 b n i')) == 1#1) (k.castLE (by decide))).val := by
    intro j h0 h1 h2
    rw [h2]
    have e2 : ∀ p : Fin 2048, iotaInDim S4x2048x2048 32 (2 : Fin 3) (ix3 b n p) = BitVec.ofNat 32 p.val := fun _ => rfl
    simp only [e j _ h0 h1]
    exact (congrArg (iotaInDim S4x2048x2048 32 (2 : Fin 3)) (e j _ h0 h1)).trans (e2 _)
  unfold Host.topK extractStridedSlice Host.sort2
  dsimp only
  rw [dif_pos (show 2 < S4x2048x2048.rank by decide)]
  dsimp only
  rw [dif_pos (show 2 < 3 by decide)]
  exact key _ (Fin.ext (Nat.zero_add _)) (Fin.ext (Nat.zero_add _)) (Fin.ext (Nat.zero_add _))

/-- The order of the top-k among unmasked real points is the order of the squared distances, nearest first. -/
theorem order_eq (p q : EReal) (hp : 0 ≤ p) (hq : 0 ≤ q) :
    (Ideal.cmpTotal .gt (-Ideal.sqrt p) (-Ideal.sqrt q) == 1#1) = decide (p < q) := by
  have e : decide (-Ideal.sqrt q < -Ideal.sqrt p) = decide (p < q) := decide_eq_decide.mpr (by rw [EReal.neg_lt_neg_iff, Reals.sqrt_lt hp hq])
  rw [← e]
  show (BitVec.ofBool (decide (-Ideal.sqrt q < -Ideal.sqrt p)) == 1#1) = _
  generalize decide (-Ideal.sqrt q < -Ideal.sqrt p) = w
  cases w <;> rfl

/-- The reference's indices are the nearest points, where no mask entry is zero and no distance is infinite. -/
theorem indices_at (x1 : Arr S4x2048x3) (x3 : Arr S4x2048x2048) (h3 : ∀ i, x3 i ≠ (0 : EReal))
    (h1 : ∀ b n j, Spec.dist (fun n c => x1 (ix3 b n c)) n j ≠ ⊤) (b : Fin 4) (n : Fin 2048) (k : Fin 16) :
    val_main_indices (F := Ideal) x1 x3 (ix3 b n k) = BitVec.ofNat 32 (Spec.near (fun n c => x1 (ix3 b n c)) n k).val := by
  rw [indices_sorted, Neighbors.sortedFrom_eq_picked (by decide) (Spec.dist (fun n c => x1 (ix3 b n c)) n) (h1 b n)]
  · rfl
  · intro i j
    rw [v17_at _ _ _ _ _ (h3 _), v17_at _ _ _ _ _ (h3 _)]
    exact order_eq _ _ (le_max_right _ _) (le_max_right _ _)

/-- A point's number, as a word, is not negative, so the index fix-up leaves it. -/
theorem slt_ofNat (j : Fin 2048) : IntOp.cmpi .slt (BitVec.ofNat 32 j.val) 0#32 ≠ 1#1 := by
  have hj := j.isLt
  show BitVec.ofBool (BitVec.slt _ _) ≠ _
  rw [BitVec.slt_iff_toInt_lt.not.mpr (by rw [WordArith.toInt_ofNat_small _ (by omega)]; simp) |> Bool.eq_false_iff.mpr]
  decide

section
variable (x1 : Arr S4x2048x3) (x3 : Arr S4x2048x2048) (b : Fin 4) (n : Fin 2048) (k : Fin 16) (j : Fin 2048)
  (h : val_main_indices (F := Ideal) x1 x3 (ix3 b n k) = BitVec.ofNat 32 j.val)

include h

/-- The start indices of the keys' gather. -/
theorem v53_at : val_main_v53 (F := Ideal) x1 x3 (ix4 b n k 0) = BitVec.ofNat 32 j.val := by
  pointwise [val_main_v53, val_main_v52, val_main_v51, val_main_v50, val_main_v49, val_main_v48, val_main_c, val_main_c_7]
  dsimp only [Scalar.select]
  rw [h]
  exact if_neg (slt_ofNat j)

/-- The start indices of the values' gather. -/
theorem v60_at : val_main_v60 (F := Ideal) x1 x3 (ix4 b n k 0) = BitVec.ofNat 32 j.val := by
  pointwise [val_main_v60, val_main_v59, val_main_v58, val_main_v57, val_main_v56, val_main_v55, val_main_c_8, val_main_c_9]
  rw [h]
  exact if_neg (slt_ofNat j)

/-- The start indices of the positions' gather. -/
theorem v67_at : val_main_v67 (F := Ideal) x1 x3 (ix4 b n k 0) = BitVec.ofNat 32 j.val := by
  pointwise [val_main_v67, val_main_v66, val_main_v65, val_main_v64, val_main_v63, val_main_v62, val_main_c_10, val_main_c_11]
  rw [h]
  exact if_neg (slt_ofNat j)

/-- A neighbour's key. -/
theorem v54_at (x0 : Arr S4x2048x256) (x8 : Arr S256x256) (x9 : Arr S256) (x10 : Arr S256x256) (x11 : Arr S256) (o : Fin 256) :
    val_main_v54 (F := Ideal) x0 x1 x3 x8 x9 x10 x11 (ix4 b n k o) = val_main_v37 (F := Ideal) x0 x8 x9 x10 x11 (ix3 b j o) :=
  gather256_at _ _ b n k o j (v53_at x1 x3 b n k j h)

/-- A neighbour's value. -/
theorem v61_at (x0 : Arr S4x2048x256) (x12 : Arr S256x256) (x13 : Arr S256) (x14 : Arr S256x256) (x15 : Arr S256) (o : Fin 256) :
    val_main_v61 (F := Ideal) x0 x1 x3 x12 x13 x14 x15 (ix4 b n k o) = val_main_v47 (F := Ideal) x0 x12 x13 x14 x15 (ix3 b j o) :=
  gather256_at _ _ b n k o j (v60_at x1 x3 b n k j h)

/-- A neighbour's position. -/
theorem v68_at (c : Fin 3) : val_main_v68 (F := Ideal) x1 x3 (ix4 b n k c) = x1 (ix3 b j c) :=
  gather3_at _ _ b n k c j (v67_at x1 x3 b n k j h)

end

end Cert.ReferenceIdeal.Read
-- ==== Proof.RefResult.lean ====
/-
  The reference's result read at an index: the attention over the nearest points, the two dense layers and the
  normalisation, as the plain functions of Spec.
-/
module

public import proofs.«01_k».proof.Proof.RefNear
public import Idealize.ShloMosaic.Lib.KernelVsHost

@[expose] public section

noncomputable section

namespace Cert.ReferenceIdeal.Read

open Idealize.ShloMosaic Cert.ReferenceIdeal.Gen

variable {x0 : Arr S4x2048x256} {x1 : Arr S4x2048x3} {x2 : Arr S4x2048x3} {x3 : Arr S4x2048x2048} {x4 : Arr S256x256} {x5 : Arr S256} {x6 : Arr S256x256} {x7 : Arr S256} {x8 : Arr S256x256} {x9 : Arr S256} {x10 : Arr S256x256} {x11 : Arr S256} {x12 : Arr S256x256} {x13 : Arr S256} {x14 : Arr S256x256} {x15 : Arr S256} {x16 : Arr S256x2} {x17 : Arr S256} {x18 : Arr S256x256} {x19 : Arr S256} {x20 : Arr S256x256} {x21 : Arr S256} {x22 : Arr S256x256} {x23 : Arr S256} {x24 : Arr S256} {x25 : Arr S256}

/-- The scores. -/
theorem v154_at (b : Fin 4) (n : Fin 2048) (k j : Fin 16) :
    val_main_v154 (F := Ideal) x0 x1 x2 x3 x4 x5 x6 x7 x8 x9 x10 x11 x16 x17 x18 x19 (ix4 b n k j)
      = Spec.score (fun o => val_main_v27 (F := Ideal) x0 x4 x5 x6 x7 (ix3 b n o))
          (fun j o => val_main_v54 (F := Ideal) x0 x1 x3 x8 x9 x10 x11 (ix4 b n j o))
          (fun j o => val_main_v147 (F := Ideal) x1 x2 x3 x16 x17 x18 x19 (ix4 b n j o)) j := by
  pointwise [val_main_v148, val_main_v150, val_main_v151, val_main_v152, val_main_v153, val_main_v154, val_main_cst_32]
  rfl

/-- The largest score of a row. -/
theorem v155_at (b : Fin 4) (n : Fin 2048) (k : Fin 16) :
    val_main_v155 (F := Ideal) x0 x1 x2 x3 x4 x5 x6 x7 x8 x9 x10 x11 x16 x17 x18 x19 (ix3 b n k)
      = Spec.top (fun j => val_main_v154 (F := Ideal) x0 x1 x2 x3 x4 x5 x6 x7 x8 x9 x10 x11 x16 x17 x18 x19 (ix4 b n k j)) := by
  unfold val_main_v155
  generalize val_main_v154 (F := Ideal) x0 x1 x2 x3 x4 x5 x6 x7 x8 x9 x10 x11 x16 x17 x18 x19 = y
  unfold val_main_cst_33
  refine (congrFun (hostReduce_maximumf_eq_multiReduction (F := Ideal) (s := S4x2048x16x16) (t := S4x2048x16) (u := S_) (φ := .f32) (axes := [3]) y
    0xFF800000#32 _ _ (by decide) (.inl rfl) rfl) _).trans ?_
  pointwise []
  rfl

/-- The largest score of a row, against minus infinity. -/
theorem v157_at (b : Fin 4) (n : Fin 2048) (k : Fin 16) :
    val_main_v157 (F := Ideal) x0 x1 x2 x3 x4 x5 x6 x7 x8 x9 x10 x11 x16 x17 x18 x19 (ix3 b n k)
      = max (Ideal.ofBits .f32 0xFF800000#32) (Spec.top (fun j => val_main_v154 (F := Ideal) x0 x1 x2 x3 x4 x5 x6 x7 x8 x9 x10 x11 x16 x17 x18 x19 (ix4 b n k j))) := by
  rw [← v155_at, val_main_v157_apply]
  have e : val_main_v156 (F := Ideal) (ix3 b n k) = Ideal.ofBits .f32 0xFF800000#32 :=
    (val_main_v156_apply _).trans (val_main_cst_34_apply _)
  generalize val_main_v155 (F := Ideal) x0 x1 x2 x3 x4 x5 x6 x7 x8 x9 x10 x11 x16 x17 x18 x19 = y
  generalize val_main_v156 (F := Ideal) (ix3 b n k) = z at e ⊢
  subst e
  rfl

/-- The softmax weights. -/
theorem v165_at (b : Fin 4) (n : Fin 2048) (k j : Fin 16) :
    val_main_v165 (F := Ideal) x0 x1 x2 x3 x4 x5 x6 x7 x8 x9 x10 x11 x16 x17 x18 x19 (ix4 b n k j)
      = Spec.weight (fun j => val_main_v154 (F := Ideal) x0 x1 x2 x3 x4 x5 x6 x7 x8 x9 x10 x11 x16 x17 x18 x19 (ix4 b n k j)) j := by
  unfold Spec.weight
  rw [← v157_at]
  unfold val_main_v165 val_main_v164 val_main_v163 val_main_v162 val_main_v161 val_main_v160 val_main_v159 val_main_v158
  generalize val_main_v157 (F := Ideal) x0 x1 x2 x3 x4 x5 x6 x7 x8 x9 x10 x11 x16 x17 x18 x19 = z
  generalize val_main_v154 (F := Ideal) x0 x1 x2 x3 x4 x5 x6 x7 x8 x9 x10 x11 x16 x17 x18 x19 = y
  pointwise [val_main_cst_35]

/-- The attended values. -/
theorem v169_at (b : Fin 4) (n : Fin 2048) (o : Fin 256) :
    val_main_v169 (F := Ideal) x0 x1 x2 x3 x4 x5 x6 x7 x8 x9 x10 x11 x12 x13 x14 x15 x16 x17 x18 x19 (ix3 b n o)
      = Spec.attend (Spec.score (fun o => val_main_v27 (F := Ideal) x0 x4 x5 x6 x7 (ix3 b n o))
          (fun j o => val_main_v54 (F := Ideal) x0 x1 x3 x8 x9 x10 x11 (ix4 b n j o))
          (fun j o => val_main_v147 (F := Ideal) x1 x2 x3 x16 x17 x18 x19 (ix4 b n j o)))
          (fun j o => val_main_v61 (F := Ideal) x0 x1 x3 x12 x13 x14 x15 (ix4 b n j o))
          (fun j o => val_main_v147 (F := Ideal) x1 x2 x3 x16 x17 x18 x19 (ix4 b n j o)) o := by
  have e : ∀ k j, val_main_v165 (F := Ideal) x0 x1 x2 x3 x4 x5 x6 x7 x8 x9 x10 x11 x16 x17 x18 x19 (ix4 b n k j) = Spec.weight (Spec.score (fun o => val_main_v27 (F := Ideal) x0 x4 x5 x6 x7 (ix3 b n o))
          (fun j o => val_main_v54 (F := Ideal) x0 x1 x3 x8 x9 x10 x11 (ix4 b n j o))
          (fun j o => val_main_v147 (F := Ideal) x1 x2 x3 x16 x17 x18 x19 (ix4 b n j o))) j := fun k j =>
    (v165_at b n k j).trans (congrArg (fun s => Spec.weight s j) (funext fun j => v154_at b n k j))
  unfold Spec.attend
  generalize (Spec.score (fun o => val_main_v27 (F := Ideal) x0 x4 x5 x6 x7 (ix3 b n o))
          (fun j o => val_main_v54 (F := Ideal) x0 x1 x3 x8 x9 x10 x11 (ix4 b n j o))
          (fun j o => val_main_v147 (F := Ideal) x1 x2 x3 x16 x17 x18 x19 (ix4 b n j o))) = s at e ⊢
  unfold val_main_v169 val_main_v168 val_main_v167 val_main_v166 val_main_v149
  generalize val_main_v165 (F := Ideal) x0 x1 x2 x3 x4 x5 x6 x7 x8 x9 x10 x11 x16 x17 x18 x19 = y at e ⊢
  pointwise [val_main_cst_36, val_main_cst_37]
  simp only [e]

/-- The rows before the normalisation. -/
theorem v180_at (b : Fin 4) (n : Fin 2048) (o : Fin 256) :
    val_main_v180 (F := Ideal) x0 x1 x2 x3 x4 x5 x6 x7 x8 x9 x10 x11 x12 x13 x14 x15 x16 x17 x18 x19 x20 x21 x22 x23 (ix3 b n o)
      = Spec.mlp (fun o i => x20 (ix2 o i)) (fun o => x21 (ix1 o)) (fun o i => x22 (ix2 o i)) (fun o => x23 (ix1 o)) (fun o => val_main_v169 (F := Ideal) x0 x1 x2 x3 x4 x5 x6 x7 x8 x9 x10 x11 x12 x13 x14 x15 x16 x17 x18 x19 (ix3 b n o)) o
        + val_main_v27 (F := Ideal) x0 x4 x5 x6 x7 (ix3 b n o) := by
  unfold val_main_v180 val_main_v179 val_main_v176 val_main_v175 val_main_v173 val_main_v170
  generalize val_main_v169 (F := Ideal) x0 x1 x2 x3 x4 x5 x6 x7 x8 x9 x10 x11 x12 x13 x14 x15 x16 x17 x18 x19 = y
  pointwise [val_main_v171, val_main_v172, val_main_v177, val_main_v178, val_main_v174, val_main_cst_38]
  rfl

/-- The result, from the rows. -/
theorem v206_at (b : Fin 4) (n : Fin 2048) (o : Fin 256) :
    val_main_v206 (F := Ideal) x0 x1 x2 x3 x4 x5 x6 x7 x8 x9 x10 x11 x12 x13 x14 x15 x16 x17 x18 x19 x20 x21 x22 x23 x24 x25 (ix3 b n o)
      = Spec.norm (fun o => val_main_v180 (F := Ideal) x0 x1 x2 x3 x4 x5 x6 x7 x8 x9 x10 x11 x12 x13 x14 x15 x16 x17 x18 x19 x20 x21 x22 x23 (ix3 b n o)) (fun o => x24 (ix1 o)) (fun o => x25 (ix1 o)) o := by
  unfold val_main_v206 val_main_v203 val_main_v200 val_main_v199 val_main_v198 val_main_v197 val_main_v195 val_main_v194 val_main_v193 val_main_v191 val_main_v190 val_main_v189 val_main_v188 val_main_v187 val_main_v186 val_main_v185 val_main_v184 val_main_v182 val_main_v181
  generalize val_main_v180 (F := Ideal) x0 x1 x2 x3 x4 x5 x6 x7 x8 x9 x10 x11 x12 x13 x14 x15 x16 x17 x18 x19 x20 x21 x22 x23 = y
  pointwise [val_main_v183, val_main_v192, val_main_v196, val_main_v201, val_main_v202, val_main_v204, val_main_v205, val_main_cst_39, val_main_cst_40, val_main_cst_41, val_main_cst_42, val_main_cst_43]
  rfl

variable (h3 : ∀ i, x3 i ≠ (0 : EReal)) (h1 : ∀ b n j, Spec.dist (fun n c => x1 (ix3 b n c)) n j ≠ ⊤)

include h3 h1

/-- THE REFERENCE'S RESULT: the layer's plain functions at the nearest points. -/
theorem result_at (b : Fin 4) (n : Fin 2048) (o : Fin 256) :
    val_main_v206 (F := Ideal) x0 x1 x2 x3 x4 x5 x6 x7 x8 x9 x10 x11 x12 x13 x14 x15 x16 x17 x18 x19 x20 x21 x22 x23 x24 x25 (ix3 b n o)
      = Spec.norm (Spec.row (fun o i => x20 (ix2 o i)) (fun o => x21 (ix1 o)) (fun o i => x22 (ix2 o i)) (fun o => x23 (ix1 o))
          (Spec.mlp (fun o i => x4 (ix2 o i)) (fun o => x5 (ix1 o)) (fun o i => x6 (ix2 o i)) (fun o => x7 (ix1 o)) (fun i => x0 (ix3 b n i)))
          (fun j => Spec.mlp (fun o i => x8 (ix2 o i)) (fun o => x9 (ix1 o)) (fun o i => x10 (ix2 o i)) (fun o => x11 (ix1 o)) (fun i => x0 (ix3 b (Spec.near (fun n c => x1 (ix3 b n c)) n j) i)))
          (fun j => Spec.mlp (fun o i => x12 (ix2 o i)) (fun o => x13 (ix1 o)) (fun o i => x14 (ix2 o i)) (fun o => x15 (ix1 o)) (fun i => x0 (ix3 b (Spec.near (fun n c => x1 (ix3 b n c)) n j) i)))
          (fun j => Spec.dense (fun o i => x18 (ix2 o i)) (fun o => x19 (ix1 o)) (Spec.inner (fun o i => x16 (ix2 o i)) (fun o => x17 (ix1 o)) (fun c => x1 (ix3 b n c))
            (fun c => x1 (ix3 b (Spec.near (fun n c => x1 (ix3 b n c)) n j) c)) (fun c => x2 (ix3 b n c)))))
          (fun o => x24 (ix1 o)) (fun o => x25 (ix1 o)) o := by
  have hi := fun k => indices_at x1 x3 h3 h1 b n k
  rw [v206_at]
  refine congrArg (fun y => Spec.norm y _ _ o) (funext fun o => ?_)
  rw [v180_at]
  unfold Spec.row
  simp only [v169_at, v54_at x1 x3 b n _ _ (hi _), v61_at x1 x3 b n _ _ (hi _), v147_at, v136_at, v97_at, v85_at, v68_at x1 x3 b n _ _ (hi _),
    v27_at, v37_at, v47_at]
  rfl

end Cert.ReferenceIdeal.Read
-- ==== Proof.Equal.lean ====
/-
  The kernel's result array is the reference's, under the precondition.
-/
module

public import proofs.«01_k».proof.Proof.Chain
public import proofs.«01_k».proof.Proof.Same
public import proofs.«01_k».proof.Proof.RefResult
public import proofs.«01_k».proof.Proof.Pre

@[expose] public section

noncomputable section

namespace Cert.ReferenceIdeal.Read

open Idealize.ShloMosaic Cert.ReferenceIdeal.Gen

variable {x0 : Arr S4x2048x256} {x1 : Arr S4x2048x3} {x2 : Arr S4x2048x3} {x3 : Arr S4x2048x2048} {x4 : Arr S256x256} {x5 : Arr S256} {x6 : Arr S256x256} {x7 : Arr S256} {x8 : Arr S256x256} {x9 : Arr S256} {x10 : Arr S256x256} {x11 : Arr S256} {x12 : Arr S256x256} {x13 : Arr S256} {x14 : Arr S256x256} {x15 : Arr S256} {x16 : Arr S256x2} {x17 : Arr S256} {x18 : Arr S256x256} {x19 : Arr S256} {x20 : Arr S256x256} {x21 : Arr S256} {x22 : Arr S256x256} {x23 : Arr S256} {x24 : Arr S256} {x25 : Arr S256}

/-- The reference's flattened result at a point's row. -/
theorem flat_result (g : Fin 8192) (b : Fin 4) (n : Fin 2048) (o : Fin 256) (h : g.val = b.val * 2048 + n.val) :
    val_main_v207 (F := Ideal) x0 x1 x2 x3 x4 x5 x6 x7 x8 x9 x10 x11 x12 x13 x14 x15 x16 x17 x18 x19 x20 x21 x22 x23 x24 x25 (ix2 g o) = val_main_v206 (F := Ideal) x0 x1 x2 x3 x4 x5 x6 x7 x8 x9 x10 x11 x12 x13 x14 x15 x16 x17 x18 x19 x20 x21 x22 x23 x24 x25 (ix3 b n o) := by
  rw [val_main_v207_apply]
  have hn := n.isLt
  have ho := o.isLt
  refine congrArg _ (funext fun a => Fin.ext ?_)
  fin_cases a
  · show (g.val * 256 + o.val) / 524288 = b.val; omega
  · show (g.val * 256 + o.val) / 256 % 2048 = n.val; omega
  · show (g.val * 256 + o.val) % 256 = o.val; omega

end Cert.ReferenceIdeal.Read

namespace Cert.KernelIdeal

open Idealize.ShloMosaic Idealize.ShloMosaic.TcCoe Cert.KernelIdeal.Gen Cert.Reals

variable (m : (l : Loc nD τ sig) → Buf (Elt Ideal) l) (ρ : Dev nD → PrngReg) (c : Dev nD)

/-- The mask as launched. -/
abbrev mask : Vec Ideal S4x2048x2048 .f32 := m ((c.tc : Thread nD τ).loc main_arg3)

/-- Real positions are at real distances. -/
theorem dist_ne_top (P : Fin 2048 → Fin 3 → EReal) (h : ∀ n k, IsReal (P n k)) (n j : Fin 2048) : Spec.dist P n j ≠ ⊤ := by
  refine IsReal.ne_top (IsReal.max (IsReal.sub (IsReal.add ?_ ?_) (IsReal.mul (isReal_ofBits _ (by decide)) ?_)) isReal_zero)
  · exact IsReal.sum_univ fun k => (h n k).mul (h n k)
  · exact IsReal.sum_univ fun k => (h j k).mul (h j k)
  · exact IsReal.sum_univ fun k => (h n k).mul (h j k)

/-- The kernel's result at a point is the reference's. -/
theorem result_eq (hmask : ∀ i, mask m c i ≠ (0 : EReal)) (h0 : ∀ i, IsReal (a0 m c i)) (h1 : ∀ i, IsReal (a1 m c i))
    (h8 : ∀ i, IsReal (a8 m c i)) (h9 : ∀ i, IsReal (a9 m c i)) (h10 : ∀ i, IsReal (a10 m c i)) (h11 : ∀ i, IsReal (a11 m c i))
    (h16 : ∀ i, IsReal (a16 m c i)) (h17 : ∀ i, IsReal (a17 m c i)) (h18 : ∀ i, IsReal (a18 m c i)) (h19 : ∀ i, IsReal (a19 m c i))
    (b : Fin 4) (n : Fin 2048) (o : Fin 256) :
    resultAt m c b n o = Cert.ReferenceIdeal.Read.val_main_v206 (F := Ideal) (a0 m c) (a1 m c) (a2 m c) (mask m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (ix3 b n o) := by
  refine Eq.trans ?_ (Cert.ReferenceIdeal.Read.result_at hmask (fun b n j => dist_ne_top _ (fun n k => h1 _) n j) b n o).symm
  unfold resultAt
  have hin : (fun j => Fused.inner (fun o t => a16 m c (ix2 o t)) (ln (a17 m c)) (fun k => a1 m c (ix3 b n k))
      (fun k => a1 m c (ix3 b (nearOf m c b n j) k)) (fun k => a2 m c (ix3 b n k)))
      = fun j => Spec.inner (fun o t => a16 m c (ix2 o t)) (ln (a17 m c)) (fun k => a1 m c (ix3 b n k))
      (fun k => a1 m c (ix3 b (nearOf m c b n j) k)) (fun k => a2 m c (ix3 b n k)) := funext fun j => Same.inner_eq _ _ _ _ _
  rw [hin]
  exact Same.norm_row_eq (Wp := sq (a18 m c)) (bp := ln (a19 m c)) (sq (a20 m c)) (ln (a21 m c)) (sq (a22 m c)) (ln (a23 m c))
    (query m c b n) (key := fun j => keyOf m c b (nearOf m c b n j))
    (hid := fun j => Spec.inner (fun o t => a16 m c (ix2 o t)) (ln (a17 m c)) (fun k => a1 m c (ix3 b n k))
      (fun k => a1 m c (ix3 b (nearOf m c b n j) k)) (fun k => a2 m c (ix3 b n k)))
    (fun j => valueOf m c b (nearOf m c b n j)) (fun _ _ => h18 _) (fun _ => h19 _)
    (fun j => Same.mlp_real (fun _ _ => h8 _) (fun _ => h9 _) (fun _ _ => h10 _) (fun _ => h11 _) (fun _ => h0 _))
    (fun j => Same.inner_real _ (fun _ _ => h16 _) (fun _ => h17 _) (fun _ => h1 _) (fun _ => h1 _)) _ _ o

/-- The kernel's result array is the reference's, under the precondition. -/
theorem array_eq (h : Cert.Pre_finite_unmasked.fn (F := Ideal) (a0 m c) (a1 m c) (a2 m c) (mask m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) = fun _ => 1#1) :
    (W6 m ρ c (Proc.devRef .tc main_v50) : Vec Ideal S8192x256 .f32)
      = Cert.ReferenceIdeal.Read.val_main_v207 (F := Ideal) (a0 m c) (a1 m c) (a2 m c) (mask m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) := by
  obtain ⟨hmask, h0, h1, h8, h9, h10, h11, h16, h17, h18, h19⟩ := Cert.Pre_finite_unmasked.content (a0 m c) (a1 m c) (a2 m c) (mask m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) h
  funext i
  obtain ⟨g, o, rfl⟩ : ∃ (g : Fin 8192) (o : Fin 256), i = ix2 g o := ⟨i 0, i 1, ValueIdx.eq_ix2 (n0 := 8192) (n1 := 256) i⟩
  obtain ⟨b, n, rfl⟩ : ∃ (b : Fin 4) (n : Fin 2048), g = flatRow b n :=
    ⟨⟨g.val / 2048, by omega⟩, ⟨g.val % 2048, by omega⟩, Fin.ext (by show g.val = g.val / 2048 * 2048 + g.val % 2048; omega)⟩
  rw [W6_result, Cert.ReferenceIdeal.Read.flat_result (flatRow b n) b n o rfl]
  exact result_eq m c hmask h0 h1 h8 h9 h10 h11 h16 h17 h18 h19 b n o

end Cert.KernelIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Pre
public import proofs.«01_k».proof.Proof.Gen.Pre_finite_unmasked
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference terminates, leaves its arguments as they were and every counter at zero: its run, each argument
    read at its buffer, and no semaphore declared. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Where the inputs are finite and nothing is masked, the kernel and the reference leave one array: each program's run
    ends at its own array, and `array_eq` says they are the same. -/
theorem algebraic : Cert.algebraic_KernelIdeal_ReferenceIdeal_pre_finite_unmasked := by
  intro m g m' g' hpre hargs
  refine ⟨fun c => Cert.KernelIdeal.Gen.W6 m g c (Proc.devRef .tc Cert.KernelIdeal.main_v50), Cert.KernelIdeal.run m g,
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8, h9, h10, h11, h12, h13, h14, h15, h16, h17, h18, h19, h20, h21, h22, h23, h24, h25⟩ := hargs c
  refine ((Cert.ReferenceIdeal.Read.val_main_v207_eq (F := Ideal) (Idealize.ShloMosaic.StableHlo.launchContents m' c)).trans ?_).trans
    (Cert.KernelIdeal.array_eq m g c (hpre c)).symm
  show Cert.ReferenceIdeal.Read.val_main_v207 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = _
  rw [h0, h1, h2, h3, h4, h5, h6, h7, h8, h9, h10, h11, h12, h13, h14, h15, h16, h17, h18, h19, h20, h21, h22, h23, h24, h25]

/-- The frames of the three programs, the idealization, which rewrites nothing, and the equality of the two results. -/
theorem claim : Cert.Claim := ⟨Cert.Kernel.Gen.facts, Cert.KernelIdeal.Gen.facts, Cert.ReferenceIdeal.Gen.facts, Cert.Pre_finite_unmasked.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic⟩

end Cert.Proof

end
